-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvCtx (m : (ℓ : Loc Cert.QkvCtx.nD Cert.QkvCtx.τ Cert.QkvCtx.sig) → Buf (Elt Bits) ℓ) : Prop :=
  True

def Pre_QkvCtxIdeal (m : (ℓ : Loc Cert.QkvCtxIdeal.nD Cert.QkvCtxIdeal.τ Cert.QkvCtxIdeal.sig) → Buf (Elt Ideal) ℓ) : Prop :=
  True

def Pre_QkvCtxRefIdeal (m : (ℓ : Loc Cert.QkvCtxRefIdeal.nD Cert.QkvCtxRefIdeal.τ Cert.QkvCtxRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_QkvCtx [hQkvCtx : Cert.QkvCtx.Facts] : Prop :=
  ∀ (m : (ℓ : Loc Cert.QkvCtx.nD Cert.QkvCtx.τ Cert.QkvCtx.sig) → Buf (Elt Bits) ℓ) (g : Dev Cert.QkvCtx.nD → PrngReg), Pre_QkvCtx m →
    θ_run (Cert.QkvCtx.defs (F := Bits)) (onTc (τ := Cert.QkvCtx.τ) (Cert.QkvCtx.main (F := Bits))) ⟨m, fun _ => 0, g⟩ (fun r => (∀ c : Dev Cert.QkvCtx.nD,
      r.2.mem ((c.tc : Thread Cert.QkvCtx.nD Cert.QkvCtx.τ).loc Cert.QkvCtx.main_arg0) = m ((c.tc : Thread Cert.QkvCtx.nD Cert.QkvCtx.τ).loc Cert.QkvCtx.main_arg0)
      ∧ r.2.mem ((c.tc : Thread Cert.QkvCtx.nD Cert.QkvCtx.τ).loc Cert.QkvCtx.main_arg1) = m ((c.tc : Thread Cert.QkvCtx.nD Cert.QkvCtx.τ).loc Cert.QkvCtx.main_arg1)
      ∧ r.2.mem ((c.tc : Thread Cert.QkvCtx.nD Cert.QkvCtx.τ).loc Cert.QkvCtx.main_arg2) = m ((c.tc : Thread Cert.QkvCtx.nD Cert.QkvCtx.τ).loc Cert.QkvCtx.main_arg2)
      ∧ r.2.mem ((c.tc : Thread Cert.QkvCtx.nD Cert.QkvCtx.τ).loc Cert.QkvCtx.main_arg3) = m ((c.tc : Thread Cert.QkvCtx.nD Cert.QkvCtx.τ).loc Cert.QkvCtx.main_arg3))
      ∧ r.2.sem = fun _ => 0)

def quiescent_QkvCtxIdeal [hQkvCtxIdeal : Cert.QkvCtxIdeal.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg), Pre_QkvCtxIdeal m →
    θ_run (Cert.QkvCtxIdeal.defs (F := Ideal)) (onTc (τ := Cert.QkvCtxIdeal.τ) (Cert.QkvCtxIdeal.main (F := Ideal))) ⟨m, fun _ => 0, g⟩ (fun r => (∀ c : Dev Cert.QkvCtxIdeal.nD,
      r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
      ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
      ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
      ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3))
      ∧ r.2.sem = fun _ => 0)

def quiescent_QkvCtxRefIdeal [hQkvCtxRefIdeal : Cert.QkvCtxRefIdeal.Facts] : Prop :=
  ∀ (m : (ℓ : Loc Cert.QkvCtxRefIdeal.nD Cert.QkvCtxRefIdeal.τ Cert.QkvCtxRefIdeal.sig) → Buf (Elt Ideal) ℓ) (g : Dev Cert.QkvCtxRefIdeal.nD → PrngReg), Pre_QkvCtxRefIdeal m →
    θ_run (Cert.QkvCtxRefIdeal.defs (F := Ideal)) (onTc (τ := Cert.QkvCtxRefIdeal.τ) (Cert.QkvCtxRefIdeal.main (F := Ideal))) ⟨m, fun _ => 0, g⟩ (fun r => (∀ c : Dev Cert.QkvCtxRefIdeal.nD,
      r.2.mem ((c.tc : Thread Cert.QkvCtxRefIdeal.nD Cert.QkvCtxRefIdeal.τ).loc Cert.QkvCtxRefIdeal.main_arg0) = m ((c.tc : Thread Cert.QkvCtxRefIdeal.nD Cert.QkvCtxRefIdeal.τ).loc Cert.QkvCtxRefIdeal.main_arg0)
      ∧ r.2.mem ((c.tc : Thread Cert.QkvCtxRefIdeal.nD Cert.QkvCtxRefIdeal.τ).loc Cert.QkvCtxRefIdeal.main_arg1) = m ((c.tc : Thread Cert.QkvCtxRefIdeal.nD Cert.QkvCtxRefIdeal.τ).loc Cert.QkvCtxRefIdeal.main_arg1)
      ∧ r.2.mem ((c.tc : Thread Cert.QkvCtxRefIdeal.nD Cert.QkvCtxRefIdeal.τ).loc Cert.QkvCtxRefIdeal.main_arg2) = m ((c.tc : Thread Cert.QkvCtxRefIdeal.nD Cert.QkvCtxRefIdeal.τ).loc Cert.QkvCtxRefIdeal.main_arg2)
      ∧ r.2.mem ((c.tc : Thread Cert.QkvCtxRefIdeal.nD Cert.QkvCtxRefIdeal.τ).loc Cert.QkvCtxRefIdeal.main_arg3) = m ((c.tc : Thread Cert.QkvCtxRefIdeal.nD Cert.QkvCtxRefIdeal.τ).loc Cert.QkvCtxRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Attn_AttnIdeal : Prop :=
  IdealRules.named_const.Statement Cert.AttnIdeal.κ "mask" .f32 0xF149F2CA#32 ⊥
  ∧ IdealRules.named_const.Statement Cert.AttnIdeal.κ "log2e" .f32 0x3FB8AA3B#32 (((Real.log 2)⁻¹ : ℝ) : EReal)

def preserves_Qkv_QkvIdeal : Prop :=
  IdealRules.named_const.Statement Cert.QkvIdeal.κ "qscale" .f32 0x3E38AA3B#32 (((Real.log 256)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v25_0)) (v1 : (c : Dev Cert.QkvIdeal.nD) → Buf (Elt Ideal) ((c.tc : Thread Cert.QkvIdeal.nD Cert.QkvIdeal.τ).loc Cert.QkvIdeal.main_v25_1)) (v2 : (c : Dev Cert.QkvIdeal.nD) → Buf (Elt Ideal) ((c.tc : Thread Cert.QkvIdeal.nD Cert.QkvIdeal.τ).loc Cert.QkvIdeal.main_v25_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v25_0) = v0 c
          ∧ r.2.mem ((c.tc : Thread Cert.QkvIdeal.nD Cert.QkvIdeal.τ).loc Cert.QkvIdeal.main_v25_1) = v1 c
          ∧ r.2.mem ((c.tc : Thread Cert.QkvIdeal.nD Cert.QkvIdeal.τ).loc Cert.QkvIdeal.main_v25_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v80) = v0 c
          ∧ r.2.mem ((c.tc : Thread Cert.QkvRefIdeal.nD Cert.QkvRefIdeal.τ).loc Cert.QkvRefIdeal.main_v81) = v1 c
          ∧ r.2.mem ((c.tc : Thread Cert.QkvRefIdeal.nD Cert.QkvRefIdeal.τ).loc Cert.QkvRefIdeal.main_v82) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_QkvCtx_QkvCtxIdeal : Prop :=
  IdealRules.named_const.Statement Cert.QkvCtxIdeal.κ "qscale" .f32 0x3E38AA3B#32 (((Real.log 256)⁻¹ : ℝ) : EReal)

def algebraic_QkvCtxIdeal_QkvCtxRefIdeal [hQkvCtxIdeal : Cert.QkvCtxIdeal.Facts] [hQkvCtxRefIdeal : Cert.QkvCtxRefIdeal.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg)
    (m' : (ℓ : Loc Cert.QkvCtxRefIdeal.nD Cert.QkvCtxRefIdeal.τ Cert.QkvCtxRefIdeal.sig) → Buf (Elt Ideal) ℓ) (g' : Dev Cert.QkvCtxRefIdeal.nD → PrngReg), Pre_QkvCtxIdeal m →
    (∀ c : Dev Cert.QkvCtxIdeal.nD,
      m' ((c.tc : Thread Cert.QkvCtxRefIdeal.nD Cert.QkvCtxRefIdeal.τ).loc Cert.QkvCtxRefIdeal.main_arg0) = m ((c.tc : Thread Cert.QkvCtxIdeal.nD Cert.QkvCtxIdeal.τ).loc Cert.QkvCtxIdeal.main_arg0)
      ∧ m' ((c.tc : Thread Cert.QkvCtxRefIdeal.nD Cert.QkvCtxRefIdeal.τ).loc Cert.QkvCtxRefIdeal.main_arg1) = m ((c.tc : Thread Cert.QkvCtxIdeal.nD Cert.QkvCtxIdeal.τ).loc Cert.QkvCtxIdeal.main_arg1)
      ∧ m' ((c.tc : Thread Cert.QkvCtxRefIdeal.nD Cert.QkvCtxRefIdeal.τ).loc Cert.QkvCtxRefIdeal.main_arg2) = m ((c.tc : Thread Cert.QkvCtxIdeal.nD Cert.QkvCtxIdeal.τ).loc Cert.QkvCtxIdeal.main_arg2)
      ∧ m' ((c.tc : Thread Cert.QkvCtxRefIdeal.nD Cert.QkvCtxRefIdeal.τ).loc Cert.QkvCtxRefIdeal.main_arg3) = m ((c.tc : Thread Cert.QkvCtxIdeal.nD Cert.QkvCtxIdeal.τ).loc Cert.QkvCtxIdeal.main_arg3)) →
    ∃ (v0 : (c : Dev Cert.QkvCtxIdeal.nD) → Buf (Elt Ideal) ((c.tc : Thread Cert.QkvCtxIdeal.nD Cert.QkvCtxIdeal.τ).loc Cert.QkvCtxIdeal.main_v10_0)) (v1 : (c : Dev Cert.QkvCtxIdeal.nD) → Buf (Elt Ideal) ((c.tc : Thread Cert.QkvCtxIdeal.nD Cert.QkvCtxIdeal.τ).loc Cert.QkvCtxIdeal.main_v10_1)) (v2 : (c : Dev Cert.QkvCtxIdeal.nD) → Buf (Elt Ideal) ((c.tc : Thread Cert.QkvCtxIdeal.nD Cert.QkvCtxIdeal.τ).loc Cert.QkvCtxIdeal.main_v10_2)),
      θ_run (Cert.QkvCtxIdeal.defs (F := Ideal)) (onTc (τ := Cert.QkvCtxIdeal.τ) (Cert.QkvCtxIdeal.main (F := Ideal))) ⟨m, fun _ => 0, g⟩ (fun r => ∀ c : Dev Cert.QkvCtxIdeal.nD,
          r.2.mem ((c.tc : Thread Cert.QkvCtxIdeal.nD Cert.QkvCtxIdeal.τ).loc Cert.QkvCtxIdeal.main_v10_0) = v0 c
          ∧ r.2.mem ((c.tc : Thread Cert.QkvCtxIdeal.nD Cert.QkvCtxIdeal.τ).loc Cert.QkvCtxIdeal.main_v10_1) = v1 c
          ∧ r.2.mem ((c.tc : Thread Cert.QkvCtxIdeal.nD Cert.QkvCtxIdeal.τ).loc Cert.QkvCtxIdeal.main_v10_2) = v2 c
          ∧ r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
          ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
          ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
          ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3))
      ∧ θ_run (Cert.QkvCtxRefIdeal.defs (F := Ideal)) (onTc (τ := Cert.QkvCtxRefIdeal.τ) (Cert.QkvCtxRefIdeal.main (F := Ideal))) ⟨m', fun _ => 0, g'⟩ (fun r => ∀ c : Dev Cert.QkvCtxRefIdeal.nD,
          r.2.mem ((c.tc : Thread Cert.QkvCtxRefIdeal.nD Cert.QkvCtxRefIdeal.τ).loc Cert.QkvCtxRefIdeal.main_v40) = v0 c
          ∧ r.2.mem ((c.tc : Thread Cert.QkvCtxRefIdeal.nD Cert.QkvCtxRefIdeal.τ).loc Cert.QkvCtxRefIdeal.main_v41) = v1 c
          ∧ r.2.mem ((c.tc : Thread Cert.QkvCtxRefIdeal.nD Cert.QkvCtxRefIdeal.τ).loc Cert.QkvCtxRefIdeal.main_v42) = v2 c
          ∧ r.2.mem ((c.tc : Thread Cert.QkvCtxRefIdeal.nD Cert.QkvCtxRefIdeal.τ).loc Cert.QkvCtxRefIdeal.main_arg0) = m' ((c.tc : Thread Cert.QkvCtxRefIdeal.nD Cert.QkvCtxRefIdeal.τ).loc Cert.QkvCtxRefIdeal.main_arg0)
          ∧ r.2.mem ((c.tc : Thread Cert.QkvCtxRefIdeal.nD Cert.QkvCtxRefIdeal.τ).loc Cert.QkvCtxRefIdeal.main_arg1) = m' ((c.tc : Thread Cert.QkvCtxRefIdeal.nD Cert.QkvCtxRefIdeal.τ).loc Cert.QkvCtxRefIdeal.main_arg1)
          ∧ r.2.mem ((c.tc : Thread Cert.QkvCtxRefIdeal.nD Cert.QkvCtxRefIdeal.τ).loc Cert.QkvCtxRefIdeal.main_arg2) = m' ((c.tc : Thread Cert.QkvCtxRefIdeal.nD Cert.QkvCtxRefIdeal.τ).loc Cert.QkvCtxRefIdeal.main_arg2)
          ∧ r.2.mem ((c.tc : Thread Cert.QkvCtxRefIdeal.nD Cert.QkvCtxRefIdeal.τ).loc Cert.QkvCtxRefIdeal.main_arg3) = m' ((c.tc : Thread Cert.QkvCtxRefIdeal.nD Cert.QkvCtxRefIdeal.τ).loc Cert.QkvCtxRefIdeal.main_arg3))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hQkvCtx : Cert.QkvCtx.Facts) (hQkvCtxIdeal : Cert.QkvCtxIdeal.Facts) (hQkvCtxRefIdeal : Cert.QkvCtxRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnRefIdeal (hAttnRefIdeal := hAttnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvCtx (hQkvCtx := hQkvCtx)
    ∧ quiescent_QkvCtxIdeal (hQkvCtxIdeal := hQkvCtxIdeal)
    ∧ quiescent_QkvCtxRefIdeal (hQkvCtxRefIdeal := hQkvCtxRefIdeal)
    ∧ preserves_Ffn_FfnIdeal
    ∧ algebraic_FfnIdeal_FfnRefIdeal (hFfnIdeal := hFfnIdeal) (hFfnRefIdeal := hFfnRefIdeal)
    ∧ preserves_Attn_AttnIdeal
    ∧ preserves_Qkv_QkvIdeal
    ∧ algebraic_QkvIdeal_QkvRefIdeal (hQkvIdeal := hQkvIdeal) (hQkvRefIdeal := hQkvRefIdeal)
    ∧ preserves_QkvCtx_QkvCtxIdeal
    ∧ algebraic_QkvCtxIdeal_QkvCtxRefIdeal (hQkvCtxIdeal := hQkvCtxIdeal) (hQkvCtxRefIdeal := hQkvCtxRefIdeal)
-- ==== Ffn.lean ====
abbrev S16x2048x2048 : Shape := ⟨3, ![16, 2048, 2048]⟩
abbrev S16x6x2048 : Shape := ⟨3, ![16, 6, 2048]⟩
abbrev S2048 : Shape := ⟨1, ![2048]⟩
abbrev S2048x11264 : Shape := ⟨2, ![2048, 11264]⟩
abbrev S5632x2048 : Shape := ⟨2, ![5632, 2048]⟩
abbrev S2048x22x512 : Shape := ⟨3, ![2048, 22, 512]⟩
abbrev S22x2048x512 : Shape := ⟨3, ![22, 2048, 512]⟩
abbrev S1x2048 : Shape := ⟨2, ![1, 2048]⟩
abbrev S1x1024x2048 : Shape := ⟨3, ![1, 1024, 2048]⟩
abbrev S1x6x2048 : Shape := ⟨3, ![1, 6, 2048]⟩
abbrev S1x2048x512 : Shape := ⟨3, ![1, 2048, 512]⟩
abbrev S512x2048 : Shape := ⟨2, ![512, 2048]⟩
abbrev S1024x2048 : Shape := ⟨2, ![1024, 2048]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1x2048x256 : Shape := ⟨3, ![1, 2048, 256]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 13
  | .vmem => 15
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S2048x11264, .bf16⟩
  | .hbm, ⟨7, _⟩ => ⟨S2048x22x512, .bf16⟩
  | .hbm, ⟨8, _⟩ => ⟨S22x2048x512, .bf16⟩
  | .hbm, ⟨9, _⟩ => ⟨S1x2048, .f32⟩
  | .hbm, ⟨10, _⟩ => ⟨S1x2048, .f32⟩
  | .hbm, ⟨11, _⟩ => ⟨S5632x2048, .bf16⟩
  | .hbm, ⟨12, _⟩ => ⟨S16x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x1024x2048, .f32⟩
  | .local _ .vmem, ⟨13, _⟩ => ⟨S1x1024x2048, .f32⟩
  | .local _ .vmem, ⟨14, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 2, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnRefIdeal.lean ====
abbrev S16x2048x2048 : Shape := ⟨3, ![16, 2048, 2048]⟩
abbrev S16x6x2048 : Shape := ⟨3, ![16, 6, 2048]⟩
abbrev S2048 : Shape := ⟨1, ![2048]⟩
abbrev S2048x11264 : Shape := ⟨2, ![2048, 11264]⟩
abbrev S5632x2048 : Shape := ⟨2, ![5632, 2048]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x11264 : Shape := ⟨3, ![16, 2048, 11264]⟩
abbrev S16x2048x5632 : Shape := ⟨3, ![16, 2048, 5632]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S1x1x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x1x2048, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x11264, .f32⟩
  | .hbm, ⟨33, _⟩ => ⟨S16x2048x5632, .f32⟩
  | .hbm, ⟨34, _⟩ => ⟨S16x2048x5632, .f32⟩
  | .hbm, ⟨35, _⟩ => ⟨S16x2048x5632, .f32⟩
  | .hbm, ⟨36, _⟩ => ⟨S_, .f32⟩
  | .hbm, ⟨37, _⟩ => ⟨S16x2048x5632, .f32⟩
  | .hbm, ⟨38, _⟩ => ⟨S16x2048x5632, .f32⟩
  | .hbm, ⟨39, _⟩ => ⟨S_, .f32⟩
  | .hbm, ⟨40, _⟩ => ⟨S16x2048x5632, .f32⟩
  | .hbm, ⟨41, _⟩ => ⟨S16x2048x5632, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S16x2048x2048, .f32⟩
  | .hbm, ⟨46, _⟩ => ⟨S16x2048x2048, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x2048, .f32⟩
  | .hbm, ⟨58, _⟩ => ⟨S16x2048x2048, .f32⟩
  | .hbm, ⟨59, _⟩ => ⟨S1x1x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Attn.lean ====
abbrev S16x2048x4x8x64 : Shape := ⟨5, ![16, 2048, 4, 8, 64]⟩
abbrev S16x2048x4x64 : Shape := ⟨4, ![16, 2048, 4, 64]⟩
abbrev S16x256x4x64 : Shape := ⟨4, ![16, 256, 4, 64]⟩
abbrev S32 : Shape := ⟨1, ![32]⟩
abbrev S16x2048x2048 : Shape := ⟨3, ![16, 2048, 2048]⟩
abbrev S16x6x2048 : Shape := ⟨3, ![16, 6, 2048]⟩
abbrev S2048 : Shape := ⟨1, ![2048]⟩
abbrev S2048x2048 : Shape := ⟨2, ![2048, 2048]⟩
abbrev S_ : Shape := ⟨0, ![]⟩
abbrev S16x2048x256 : Shape := ⟨3, ![16, 2048, 256]⟩
abbrev S16x256x2048 : Shape := ⟨3, ![16, 256, 2048]⟩
abbrev S16x256x4x1x64 : Shape := ⟨5, ![16, 256, 4, 1, 64]⟩
abbrev S16x256x4x2x64 : Shape := ⟨5, ![16, 256, 4, 2, 64]⟩
abbrev S16x256x512 : Shape := ⟨3, ![16, 256, 512]⟩
abbrev S1x4096x512 : Shape := ⟨3, ![1, 4096, 512]⟩
abbrev S1x4096x256 : Shape := ⟨3, ![1, 4096, 256]⟩
abbrev S1x256x4096 : Shape := ⟨3, ![1, 256, 4096]⟩
abbrev S16x2048x4x1x64 : Shape := ⟨5, ![16, 2048, 4, 1, 64]⟩
abbrev S16x2048x4x2x64 : Shape := ⟨5, ![16, 2048, 4, 2, 64]⟩
abbrev S16x2048x512 : Shape := ⟨3, ![16, 2048, 512]⟩
abbrev S1x2048 : Shape := ⟨2, ![1, 2048]⟩
abbrev S1x512x2048 : Shape := ⟨3, ![1, 512, 2048]⟩
abbrev S1x128x512 : Shape := ⟨3, ![1, 128, 512]⟩
abbrev S1x512x512 : Shape := ⟨3, ![1, 512, 512]⟩
abbrev S1x256x128 : Shape := ⟨3, ![1, 256, 128]⟩
abbrev S1x256x512 : Shape := ⟨3, ![1, 256, 512]⟩
abbrev S1x256x256 : Shape := ⟨3, ![1, 256, 256]⟩
abbrev S1x6x2048 : Shape := ⟨3, ![1, 6, 2048]⟩
abbrev S2x512x2048 : Shape := ⟨3, ![2, 512, 2048]⟩
abbrev S512x2048 : Shape := ⟨2, ![512, 2048]⟩
abbrev S128x1024 : Shape := ⟨2, ![128, 1024]⟩
abbrev S128x512 : Shape := ⟨2, ![128, 512]⟩
abbrev S512x512 : Shape := ⟨2, ![512, 512]⟩
abbrev S768x512 : Shape := ⟨2, ![768, 512]⟩
abbrev S256x128 : Shape := ⟨2, ![256, 128]⟩
abbrev S256x512 : Shape := ⟨2, ![256, 512]⟩
abbrev S256x768 : Shape := ⟨2, ![256, 768]⟩
abbrev S384x512 : Shape := ⟨2, ![384, 512]⟩
abbrev S640x512 : Shape := ⟨2, ![640, 512]⟩
abbrev S256x384 : Shape := ⟨2, ![256, 384]⟩
abbrev S256x256 : Shape := ⟨2, ![256, 256]⟩
abbrev S256x640 : Shape := ⟨2, ![256, 640]⟩
abbrev S640x128 : Shape := ⟨2, ![640, 128]⟩
abbrev S64x640 : Shape := ⟨2, ![64, 640]⟩
abbrev S128x128 : Shape := ⟨2, ![128, 128]⟩
abbrev S1x128x128 : Shape := ⟨3, ![1, 128, 128]⟩
abbrev S1 : Shape := ⟨1, ![1]⟩
abbrev S1x128 : Shape := ⟨2, ![1, 128]⟩
abbrev S1024x128 : Shape := ⟨2, ![1024, 128]⟩
abbrev S1x1024 : Shape := ⟨2, ![1, 1024]⟩
abbrev S640x1024 : Shape := ⟨2, ![640, 1024]⟩
abbrev S256x1024 : Shape := ⟨2, ![256, 1024]⟩
abbrev S1024 : Shape := ⟨1, ![1024]⟩
abbrev S16x640 : Shape := ⟨2, ![16, 640]⟩
abbrev S80x640 : Shape := ⟨2, ![80, 640]⟩
abbrev S80x1024 : Shape := ⟨2, ![80, 1024]⟩
abbrev S64x1024 : Shape := ⟨2, ![64, 1024]⟩
abbrev S64x128 : Shape := ⟨2, ![64, 128]⟩
abbrev S2048x256 : Shape := ⟨2, ![2048, 256]⟩
abbrev S512x256 : Shape := ⟨2, ![512, 256]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩

abbrev nBuf : Space → Nat
  | .hbm => 37
  | .vmem => 28
  | .smem => 1
  | _ => 0

abbrev bufTy : (tb : Table) → Fin (tcTables nBuf tb) → BufTy
  | .hbm, ⟨0, _⟩ => ⟨S16x2048x4x8x64, .f32⟩
  | .hbm, ⟨1, _⟩ => ⟨S16x2048x4x64, .f32⟩
  | .hbm, ⟨2, _⟩ => ⟨S16x2048x4x64, .f32⟩
  | .hbm, ⟨3, _⟩ => ⟨S16x256x4x64, .f32⟩
  | .hbm, ⟨4, _⟩ => ⟨S16x256x4x64, .f32⟩
  | .hbm, ⟨5, _⟩ => ⟨S32, .f32⟩
  | .hbm, ⟨6, _⟩ => ⟨S16x2048x2048, .f32⟩
  | .hbm, ⟨7, _⟩ => ⟨S16x6x2048, .f32⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16x2048x4x8x64, .f32⟩
  | .hbm, ⟨16, _⟩ => ⟨S16x2048x4x8x64, .f32⟩
  | .hbm, ⟨17, _⟩ => ⟨S16x2048x2048, .f32⟩
  | .hbm, ⟨18, _⟩ => ⟨S16x2048x2048, .bf16⟩
  | .hbm, ⟨19, _⟩ => ⟨S16x2048x256, .f32⟩
  | .hbm, ⟨20, _⟩ => ⟨S16x256x2048, .f32⟩
  | .hbm, ⟨21, _⟩ => ⟨S16x256x2048, .bf16⟩
  | .hbm, ⟨22, _⟩ => ⟨S16x256x4x1x64, .f32⟩
  | .hbm, ⟨23, _⟩ => ⟨S16x256x4x2x64, .f32⟩
  | .hbm, ⟨24, _⟩ => ⟨S16x256x512, .f32⟩
  | .hbm, ⟨25, _⟩ => ⟨S16x256x512, .bf16⟩
  | .hbm, ⟨26, _⟩ => ⟨S1x4096x512, .bf16⟩
  | .hbm, ⟨27, _⟩ => ⟨S1x4096x256, .f32⟩
  | .hbm, ⟨28, _⟩ => ⟨S1x256x4096, .f32⟩
  | .hbm, ⟨29, _⟩ => ⟨S1x256x4096, .bf16⟩
  | .hbm, ⟨30, _⟩ => ⟨S16x2048x4x1x64, .f32⟩
  | .hbm, ⟨31, _⟩ => ⟨S16x2048x4x2x64, .f32⟩
  | .hbm, ⟨32, _⟩ => ⟨S16x2048x512, .f32⟩
  | .hbm, ⟨33, _⟩ => ⟨S16x2048x512, .bf16⟩
  | .hbm, ⟨34, _⟩ => ⟨S1x2048, .f32⟩
  | .hbm, ⟨35, _⟩ => ⟨S2048x2048, .bf16⟩
  | .hbm, ⟨36, _⟩ => ⟨S16x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x256, .bf16⟩
  | .local _ .vmem, ⟨17, _⟩ => ⟨S1x256x256, .bf16⟩
  | .local _ .vmem, ⟨18, _⟩ => ⟨S1x512x2048, .f32⟩
  | .local _ .vmem, ⟨19, _⟩ => ⟨S1x512x2048, .f32⟩
  | .local _ .vmem, ⟨20, _⟩ => ⟨S1x6x2048, .f32⟩
  | .local _ .vmem, ⟨21, _⟩ => ⟨S1x6x2048, .f32⟩
  | .local _ .vmem, ⟨22, _⟩ => ⟨S1x2048, .f32⟩
  | .local _ .vmem, ⟨23, _⟩ => ⟨S2048x2048, .bf16⟩
  | .local _ .vmem, ⟨24, _⟩ => ⟨S1x512x2048, .f32⟩
  | .local _ .vmem, ⟨25, _⟩ => ⟨S1x512x2048, .f32⟩
  | .local _ .vmem, ⟨26, _⟩ => ⟨S2x512x2048, .bf16⟩
  | .local _ .vmem, ⟨27, _⟩ => ⟨S512x2048, .f32⟩
  | .local _ .smem, ⟨0, _⟩ => ⟨S32, .f32⟩
  | _, _ => ⟨S16x2048x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c2_i32 : BitVec 32 := 2#32
  let v0 : BitVec 32 := Scalar.remsi arg0 c2_i32
  let v373 : Index := Scalar.indexCast v0
  let c0_199 : Index := 0#32
  let c0_200 : Index := 0#32
  ![v373.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v382 : Index := Scalar.indexCast v0
  let c0_201 : Index := 0#32
  let c128_202 : Index := 128#32
  ![v382.toNat, 0, 128]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v391 : Index := Scalar.indexCast v0
  let c0_203 : Index := 0#32
  let c256_204 : Index := 256#32
  ![v391.toNat, 0, 256]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v400 : Index := Scalar.indexCast v0
  let c0_205 : Index := 0#32
  let c384_206 : Index := 384#32
  ![v400.toNat, 0, 384]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v501 : Index := Scalar.indexCast v0
  let c0_253 : Index := 0#32
  let c512_254 : Index := 512#32
  ![v501.toNat, 0, 512]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v510 : Index := Scalar.indexCast v0
  let c0_255 : Index := 0#32
  let c640_256 : Index := 640#32
  ![v510.toNat, 0, 640]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v519 : Index := Scalar.indexCast v0
  let c0_257 : Index := 0#32
  let c768_258 : Index := 768#32
  ![v519.toNat, 0, 768]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v528 : Index := Scalar.indexCast v0
  let c0_259 : Index := 0#32
  let c896_260 : Index := 896#32
  ![v528.toNat, 0, 896]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v629 : Index := Scalar.indexCast v0
  let c0_319 : Index := 0#32
  let c1024_320 : Index := 1024#32
  ![v629.toNat, 0, 1024]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v638 : Index := Scalar.indexCast v0
  let c0_321 : Index := 0#32
  let c1152_322 : Index := 1152#32
  ![v638.toNat, 0, 1152]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v647 : Index := Scalar.indexCast v0
  let c0_323 : Index := 0#32
  let c1280_324 : Index := 1280#32
  ![v647.toNat, 0, 1280]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v656 : Index := Scalar.indexCast v0
  let c0_325 : Index := 0#32
  let c1408_326 : Index := 1408#32
  ![v656.toNat, 0, 1408]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v757 : Index := Scalar.indexCast v0
  let c0_385 : Index := 0#32
  let c1536_386 : Index := 1536#32
  ![v757.toNat, 0, 1536]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v766 : Index := Scalar.indexCast v0
  let c0_387 : Index := 0#32
  let c1664_388 : Index := 1664#32
  ![v766.toNat, 0, 1664]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v775 : Index := Scalar.indexCast v0
  let c0_389 : Index := 0#32
  let c1792_390 : Index := 1792#32
  ![v775.toNat, 0, 1792]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v784 : Index := Scalar.indexCast v0
  let c0_391 : Index := 0#32
  let c1920_392 : Index := 1920#32
  ![v784.toNat, 0, 1920]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v885 : Index := Scalar.indexCast v0
  let c128_451 : Index := 128#32
  let c0_452 : Index := 0#32
  ![v885.toNat, 128, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v894 : Index := Scalar.indexCast v0
  let c128_453 : Index := 128#32
  let c128_454 : Index := 128#32
  ![v894.toNat, 128, 128]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v903 : Index := Scalar.indexCast v0
  let c128_455 : Index := 128#32
  let c256_456 : Index := 256#32
  ![v903.toNat, 128, 256]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v912 : Index := Scalar.indexCast v0
  let c128_457 : Index := 128#32
  let c384_458 : Index := 384#32
  ![v912.toNat, 128, 384]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v1013 : Index := Scalar.indexCast v0
  let c128_517 : Index := 128#32
  let c512_518 : Index := 512#32
  ![v1013.toNat, 128, 512]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v1022 : Index := Scalar.indexCast v0
  let c128_519 : Index := 128#32
  let c640_520 : Index := 640#32
  ![v1022.toNat, 128, 640]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v1031 : Index := Scalar.indexCast v0
  let c128_521 : Index := 128#32
  let c768_522 : Index := 768#32
  ![v1031.toNat, 128, 768]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v1040 : Index := Scalar.indexCast v0
  let c128_523 : Index := 128#32
  let c896_524 : Index := 896#32
  ![v1040.toNat, 128, 896]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v1141 : Index := Scalar.indexCast v0
  let c128_583 : Index := 128#32
  let c1024_584 : Index := 1024#32
  ![v1141.toNat, 128, 1024]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v1150 : Index := Scalar.indexCast v0
  let c128_585 : Index := 128#32
  let c1152_586 : Index := 1152#32
  ![v1150.toNat, 128, 1152]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v1159 : Index := Scalar.indexCast v0
  let c128_587 : Index := 128#32
  let c1280_588 : Index := 1280#32
  ![v1159.toNat, 128, 1280]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v1168 : Index := Scalar.indexCast v0
  let c128_589 : Index := 128#32
  let c1408_590 : Index := 1408#32
  ![v1168.toNat, 128, 1408]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v1269 : Index := Scalar.indexCast v0
  let c128_649 : Index := 128#32
  let c1536_650 : Index := 1536#32
  ![v1269.toNat, 128, 1536]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v1278 : Index := Scalar.indexCast v0
  let c128_651 : Index := 128#32
  let c1664_652 : Index := 1664#32
  ![v1278.toNat, 128, 1664]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v1287 : Index := Scalar.indexCast v0
  let c128_653 : Index := 128#32
  let c1792_654 : Index := 1792#32
  ![v1287.toNat, 128, 1792]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v1296 : Index := Scalar.indexCast v0
  let c128_655 : Index := 128#32
  let c1920_656 : Index := 1920#32
  ![v1296.toNat, 128, 1920]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v1397 : Index := Scalar.indexCast v0
  let c256_715 : Index := 256#32
  let c0_716 : Index := 0#32
  ![v1397.toNat, 256, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v1406 : Index := Scalar.indexCast v0
  let c256_717 : Index := 256#32
  let c128_718 : Index := 128#32
  ![v1406.toNat, 256, 128]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v1415 : Index := Scalar.indexCast v0
  let c256_719 : Index := 256#32
  let c256_720 : Index := 256#32
  ![v1415.toNat, 256, 256]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v1424 : Index := Scalar.indexCast v0
  let c256_721 : Index := 256#32
  let c384_722 : Index := 384#32
  ![v1424.toNat, 256, 384]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v1525 : Index := Scalar.indexCast v0
  let c256_781 : Index := 256#32
  let c512_782 : Index := 512#32
  ![v1525.toNat, 256, 512]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v1534 : Index := Scalar.indexCast v0
  let c256_783 : Index := 256#32
  let c640_784 : Index := 640#32
  ![v1534.toNat, 256, 640]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v1543 : Index := Scalar.indexCast v0
  let c256_785 : Index := 256#32
  let c768_786 : Index := 768#32
  ![v1543.toNat, 256, 768]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v1552 : Index := Scalar.indexCast v0
  let c256_787 : Index := 256#32
  let c896_788 : Index := 896#32
  ![v1552.toNat, 256, 896]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v1653 : Index := Scalar.indexCast v0
  let c256_847 : Index := 256#32
  let c1024_848 : Index := 1024#32
  ![v1653.toNat, 256, 1024]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v1662 : Index := Scalar.indexCast v0
  let c256_849 : Index := 256#32
  let c1152_850 : Index := 1152#32
  ![v1662.toNat, 256, 1152]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v1671 : Index := Scalar.indexCast v0
  let c256_851 : Index := 256#32
  let c1280_852 : Index := 1280#32
  ![v1671.toNat, 256, 1280]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v1680 : Index := Scalar.indexCast v0
  let c256_853 : Index := 256#32
  let c1408_854 : Index := 1408#32
  ![v1680.toNat, 256, 1408]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v1781 : Index := Scalar.indexCast v0
  let c256_913 : Index := 256#32
  let c1536_914 : Index := 1536#32
  ![v1781.toNat, 256, 1536]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v1790 : Index := Scalar.indexCast v0
  let c256_915 : Index := 256#32
  let c1664_916 : Index := 1664#32
  ![v1790.toNat, 256, 1664]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v1799 : Index := Scalar.indexCast v0
  let c256_917 : Index := 256#32
  let c1792_918 : Index := 1792#32
  ![v1799.toNat, 256, 1792]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v1808 : Index := Scalar.indexCast v0
  let c256_919 : Index := 256#32
  let c1920_920 : Index := 1920#32
  ![v1808.toNat, 256, 1920]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v1909 : Index := Scalar.indexCast v0
  let c384_979 : Index := 384#32
  let c0_980 : Index := 0#32
  ![v1909.toNat, 384, 0]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v1918 : Index := Scalar.indexCast v0
  let c384_981 : Index := 384#32
  let c128_982 : Index := 128#32
  ![v1918.toNat, 384, 128]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v1927 : Index := Scalar.indexCast v0
  let c384_983 : Index := 384#32
  let c256_984 : Index := 256#32
  ![v1927.toNat, 384, 256]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v1936 : Index := Scalar.indexCast v0
  let c384_985 : Index := 384#32
  let c384_986 : Index := 384#32
  ![v1936.toNat, 384, 384]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v2037 : Index := Scalar.indexCast v0
  let c384_1045 : Index := 384#32
  let c512_1046 : Index := 512#32
  ![v2037.toNat, 384, 512]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v2046 : Index := Scalar.indexCast v0
  let c384_1047 : Index := 384#32
  let c640_1048 : Index := 640#32
  ![v2046.toNat, 384, 640]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v2055 : Index := Scalar.indexCast v0
  let c384_1049 : Index := 384#32
  let c768_1050 : Index := 768#32
  ![v2055.toNat, 384, 768]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v2064 : Index := Scalar.indexCast v0
  let c384_1051 : Index := 384#32
  let c896_1052 : Index := 896#32
  ![v2064.toNat, 384, 896]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v2099 : Index := Scalar.indexCast v0
  let c384_1057 : Index := 384#32
  let c1024_1058 : Index := 1024#32
  ![v2099.toNat, 384, 1024]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v2108 : Index := Scalar.indexCast v0
  let c384_1059 : Index := 384#32
  let c1152_1060 : Index := 1152#32
  ![v2108.toNat, 384, 1152]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v2117 : Index := Scalar.indexCast v0
  let c384_1061 : Index := 384#32
  let c1280_1062 : Index := 1280#32
  ![v2117.toNat, 384, 1280]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v2126 : Index := Scalar.indexCast v0
  let c384_1063 : Index := 384#32
  let c1408_1064 : Index := 1408#32
  ![v2126.toNat, 384, 1408]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v2161 : Index := Scalar.indexCast v0
  let c384_1069 : Index := 384#32
  let c1536_1070 : Index := 1536#32
  ![v2161.toNat, 384, 1536]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v2170 : Index := Scalar.indexCast v0
  let c384_1071 : Index := 384#32
  let c1664_1072 : Index := 1664#32
  ![v2170.toNat, 384, 1664]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v2179 : Index := Scalar.indexCast v0
  let c384_1073 : Index := 384#32
  let c1792_1074 : Index := 1792#32
  ![v2179.toNat, 384, 1792]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v2188 : Index := Scalar.indexCast v0
  let c384_1075 : Index := 384#32
  let c1920_1076 : Index := 1920#32
  ![v2188.toNat, 384, 1920]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let c64_i32 : BitVec 32 := 64#32
  let v5 : BitVec 1 := Scalar.cmpi .slt arg0 c64_i32
  let v6 : BitVec 1 := Scalar.andi v4 v5
  let v7 : BitVec 32 := Scalar.extui v6
  let c0_i32_2 : BitVec 32 := 0#32
  let v8 : BitVec 1 := Scalar.cmpi .ne v7 c0_i32_2
  v8

def k0_off65 (i : grid0.Coords) : Fin 3 → Nat :=
  let c1_i32_107 : BitVec 32 := 1#32
  let arg0 : BitVec 32 := BitVec.ofNat 32 (i 0).val
  let c2_i32 : BitVec 32 := 2#32
  let v0 : BitVec 32 := Scalar.remsi arg0 c2_i32
  let v206 : BitVec 32 := Scalar.subi c1_i32_107 v0
  let v207 : Index := Scalar.indexCast v206
  let c0_108 : Index := 0#32
  let c0_109 : Index := 0#32
  ![v207.toNat, 0, 0]
def k0_off66 (i : grid0.Coords) : Fin 3 → Nat :=
  let arg0 : BitVec 32 := BitVec.ofNat 32 (i 0).val
  let c2_i32 : BitVec 32 := 2#32
  let v0 : BitVec 32 := Scalar.remsi arg0 c2_i32
  let v389 : Index := Scalar.indexCast v0
  let c0_211 : Index := 0#32
  let c0_212 : Index := 0#32
  ![v389.toNat, 0, 0]
def k0_off67 (i : grid0.Coords) : Fin 3 → Nat :=
  let arg0 : BitVec 32 := BitVec.ofNat 32 (i 0).val
  let c2_i32 : BitVec 32 := 2#32
  let v0 : BitVec 32 := Scalar.remsi arg0 c2_i32
  let v398 : Index := Scalar.indexCast v0
  let c0_213 : Index := 0#32
  let c128_214 : Index := 128#32
  ![v398.toNat, 0, 128]
def k0_off68 (i : grid0.Coords) : Fin 3 → Nat :=
  let arg0 : BitVec 32 := BitVec.ofNat 32 (i 0).val
  let c2_i32 : BitVec 32 := 2#32
  let v0 : BitVec 32 := Scalar.remsi arg0 c2_i32
  let v407 : Index := Scalar.indexCast v0
  let c0_215 : Index := 0#32
  let c256_216 : Index := 256#32
  ![v407.toNat, 0, 256]
def k0_off69 (i : grid0.Coords) : Fin 3 → Nat :=
  let arg0 : BitVec 32 := BitVec.ofNat 32 (i 0).val
  let c2_i32 : BitVec 32 := 2#32
  let v0 : BitVec 32 := Scalar.remsi arg0 c2_i32
  let v416 : Index := Scalar.indexCast v0
  let c0_217 : Index := 0#32
  let c384_218 : Index := 384#32
  ![v416.toNat, 0, 384]
def k0_off70 (i : grid0.Coords) : Fin 3 → Nat :=
  let arg0 : BitVec 32 := BitVec.ofNat 32 (i 0).val
  let c2_i32 : BitVec 32 := 2#32
  let v0 : BitVec 32 := Scalar.remsi arg0 c2_i32
  let v527 : Index := Scalar.indexCast v0
  let c0_273 : Index := 0#32
  let c512_274 : Index := 512#32
  ![v527.toNat, 0, 512]
def k0_off71 (i : grid0.Coords) : Fin 3 → Nat :=
  let arg0 : BitVec 32 := BitVec.ofNat 32 (i 0).val
  let c2_i32 : BitVec 32 := 2#32
  let v0 : BitVec 32 := Scalar.remsi arg0 c2_i32
  let v536 : Index := Scalar.indexCast v0
  let c0_275 : Index := 0#32
  let c640_276 : Index := 640#32
  ![v536.toNat, 0, 640]
def k0_off72 (i : grid0.Coords) : Fin 3 → Nat :=
  let arg0 : BitVec 32 := BitVec.ofNat 32 (i 0).val
  let c2_i32 : BitVec 32 := 2#32
  let v0 : BitVec 32 := Scalar.remsi arg0 c2_i32
  let v545 : Index := Scalar.indexCast v0
  let c0_277 : Index := 0#32
  let c768_278 : Index := 768#32
  ![v545.toNat, 0, 768]
def k0_off73 (i : grid0.Coords) : Fin 3 → Nat :=
  let arg0 : BitVec 32 := BitVec.ofNat 32 (i 0).val
  let c2_i32 : BitVec 32 := 2#32
  let v0 : BitVec 32 := Scalar.remsi arg0 c2_i32
  let v554 : Index := Scalar.indexCast v0
  let c0_279 : Index := 0#32
  let c896_280 : Index := 896#32
  ![v554.toNat, 0, 896]
def k0_off74 (i : grid0.Coords) : Fin 3 → Nat :=
  let arg0 : BitVec 32 := BitVec.ofNat 32 (i 0).val
  let c2_i32 : BitVec 32 := 2#32
  let v0 : BitVec 32 := Scalar.remsi arg0 c2_i32
  let v665 : Index := Scalar.indexCast v0
  let c0_347 : Index := 0#32
  let c1024_348 : Index := 1024#32
  ![v665.toNat, 0, 1024]
def k0_off75 (i : grid0.Coords) : Fin 3 → Nat :=
  let arg0 : BitVec 32 := BitVec.ofNat 32 (i 0).val
  let c2_i32 : BitVec 32 := 2#32
  let v0 : BitVec 32 := Scalar.remsi arg0 c2_i32
  let v674 : Index := Scalar.indexCast v0
  let c0_349 : Index := 0#32
  let c1152_350 : Index := 1152#32
  ![v674.toNat, 0, 1152]
def k0_off76 (i : grid0.Coords) : Fin 3 → Nat :=
  let arg0 : BitVec 32 := BitVec.ofNat 32 (i 0).val
  let c2_i32 : BitVec 32 := 2#32
  let v0 : BitVec 32 := Scalar.remsi arg0 c2_i32
  let v683 : Index := Scalar.indexCast v0
  let c0_351 : Index := 0#32
  let c1280_352 : Index := 1280#32
  ![v683.toNat, 0, 1280]
def k0_off77 (i : grid0.Coords) : Fin 3 → Nat :=
  let arg0 : BitVec 32 := BitVec.ofNat 32 (i 0).val
  let c2_i32 : BitVec 32 := 2#32
  let v0 : BitVec 32 := Scalar.remsi arg0 c2_i32
  let v692 : Index := Scalar.indexCast v0
  let c0_353 : Index := 0#32
  let c1408_354 : Index := 1408#32
  ![v692.toNat, 0, 1408]
def k0_off78 (i : grid0.Coords) : Fin 3 → Nat :=
  let arg0 : BitVec 32 := BitVec.ofNat 32 (i 0).val
  let c2_i32 : BitVec 32 := 2#32
  let v0 : BitVec 32 := Scalar.remsi arg0 c2_i32
  let v803 : Index := Scalar.indexCast v0
  let c0_421 : Index := 0#32
  let c1536_422 : Index := 1536#32
  ![v803.toNat, 0, 1536]
def k0_off79 (i : grid0.Coords) : Fin 3 → Nat :=
  let arg0 : BitVec 32 := BitVec.ofNat 32 (i 0).val
  let c2_i32 : BitVec 32 := 2#32
  let v0 : BitVec 32 := Scalar.remsi arg0 c2_i32
  let v812 : Index := Scalar.indexCast v0
  let c0_423 : Index := 0#32
  let c1664_424 : Index := 1664#32
  ![v812.toNat, 0, 1664]
def k0_off80 (i : grid0.Coords) : Fin 3 → Nat :=
  let arg0 : BitVec 32 := BitVec.ofNat 32 (i 0).val
  let c2_i32 : BitVec 32 := 2#32
  let v0 : BitVec 32 := Scalar.remsi arg0 c2_i32
  let v821 : Index := Scalar.indexCast v0
  let c0_425 : Index := 0#32
  let c1792_426 : Index := 1792#32
  ![v821.toNat, 0, 1792]
def k0_off81 (i : grid0.Coords) : Fin 3 → Nat :=
  let arg0 : BitVec 32 := BitVec.ofNat 32 (i 0).val
  let c2_i32 : BitVec 32 := 2#32
  let v0 : BitVec 32 := Scalar.remsi arg0 c2_i32
  let v830 : Index := Scalar.indexCast v0
  let c0_427 : Index := 0#32
  let c1920_428 : Index := 1920#32
  ![v830.toNat, 0, 1920]
def k0_off82 (i : grid0.Coords) : Fin 3 → Nat :=
  let arg0 : BitVec 32 := BitVec.ofNat 32 (i 0).val
  let c2_i32 : BitVec 32 := 2#32
  let v0 : BitVec 32 := Scalar.remsi arg0 c2_i32
  let v941 : Index := Scalar.indexCast v0
  let c128_495 : Index := 128#32
  let c0_496 : Index := 0#32
  ![v941.toNat, 128, 0]
def k0_off83 (i : grid0.Coords) : Fin 3 → Nat :=
  let arg0 : BitVec 32 := BitVec.ofNat 32 (i 0).val
  let c2_i32 : BitVec 32 := 2#32
  let v0 : BitVec 32 := Scalar.remsi arg0 c2_i32
  let v950 : Index := Scalar.indexCast v0
  let c128_497 : Index := 128#32
  let c128_498 : Index := 128#32
  ![v950.toNat, 128, 128]
def k0_off84 (i : grid0.Coords) : Fin 3 → Nat :=
  let arg0 : BitVec 32 := BitVec.ofNat 32 (i 0).val
  let c2_i32 : BitVec 32 := 2#32
  let v0 : BitVec 32 := Scalar.remsi arg0 c2_i32
  let v959 : Index := Scalar.indexCast v0
  let c128_499 : Index := 128#32
  let c256_500 : Index := 256#32
  ![v959.toNat, 128, 256]
def k0_off85 (i : grid0.Coords) : Fin 3 → Nat :=
  let arg0 : BitVec 32 := BitVec.ofNat 32 (i 0).val
  let c2_i32 : BitVec 32 := 2#32
  let v0 : BitVec 32 := Scalar.remsi arg0 c2_i32
  let v968 : Index := Scalar.indexCast v0
  let c128_501 : Index := 128#32
  let c384_502 : Index := 384#32
  ![v968.toNat, 128, 384]
def k0_off86 (i : grid0.Coords) : Fin 3 → Nat :=
  let arg0 : BitVec 32 := BitVec.ofNat 32 (i 0).val
  let c2_i32 : BitVec 32 := 2#32
  let v0 : BitVec 32 := Scalar.remsi arg0 c2_i32
  let v1079 : Index := Scalar.indexCast v0
  let c128_569 : Index := 128#32
  let c512_570 : Index := 512#32
  ![v1079.toNat, 128, 512]
def k0_off87 (i : grid0.Coords) : Fin 3 → Nat :=
  let arg0 : BitVec 32 := BitVec.ofNat 32 (i 0).val
  let c2_i32 : BitVec 32 := 2#32
  let v0 : BitVec 32 := Scalar.remsi arg0 c2_i32
  let v1088 : Index := Scalar.indexCast v0
  let c128_571 : Index := 128#32
  let c640_572 : Index := 640#32
  ![v1088.toNat, 128, 640]
def k0_off88 (i : grid0.Coords) : Fin 3 → Nat :=
  let arg0 : BitVec 32 := BitVec.ofNat 32 (i 0).val
  let c2_i32 : BitVec 32 := 2#32
  let v0 : BitVec 32 := Scalar.remsi arg0 c2_i32
  let v1097 : Index := Scalar.indexCast v0
  let c128_573 : Index := 128#32
  let c768_574 : Index := 768#32
  ![v1097.toNat, 128, 768]
def k0_off89 (i : grid0.Coords) : Fin 3 → Nat :=
  let arg0 : BitVec 32 := BitVec.ofNat 32 (i 0).val
  let c2_i32 : BitVec 32 := 2#32
  let v0 : BitVec 32 := Scalar.remsi arg0 c2_i32
  let v1106 : Index := Scalar.indexCast v0
  let c128_575 : Index := 128#32
  let c896_576 : Index := 896#32
  ![v1106.toNat, 128, 896]
def k0_off90 (i : grid0.Coords) : Fin 3 → Nat :=
  let arg0 : BitVec 32 := BitVec.ofNat 32 (i 0).val
  let c2_i32 : BitVec 32 := 2#32
  let v0 : BitVec 32 := Scalar.remsi arg0 c2_i32
  let v1217 : Index := Scalar.indexCast v0
  let c128_643 : Index := 128#32
  let c1024_644 : Index := 1024#32
  ![v1217.toNat, 128, 1024]
def k0_off91 (i : grid0.Coords) : Fin 3 → Nat :=
  let arg0 : BitVec 32 := BitVec.ofNat 32 (i 0).val
  let c2_i32 : BitVec 32 := 2#32
  let v0 : BitVec 32 := Scalar.remsi arg0 c2_i32
  let v1226 : Index := Scalar.indexCast v0
  let c128_645 : Index := 128#32
  let c1152_646 : Index := 1152#32
  ![v1226.toNat, 128, 1152]
def k0_off92 (i : grid0.Coords) : Fin 3 → Nat :=
  let arg0 : BitVec 32 := BitVec.ofNat 32 (i 0).val
  let c2_i32 : BitVec 32 := 2#32
  let v0 : BitVec 32 := Scalar.remsi arg0 c2_i32
  let v1235 : Index := Scalar.indexCast v0
  let c128_647 : Index := 128#32
  let c1280_648 : Index := 1280#32
  ![v1235.toNat, 128, 1280]
def k0_off93 (i : grid0.Coords) : Fin 3 → Nat :=
  let arg0 : BitVec 32 := BitVec.ofNat 32 (i 0).val
  let c2_i32 : BitVec 32 := 2#32
  let v0 : BitVec 32 := Scalar.remsi arg0 c2_i32
  let v1244 : Index := Scalar.indexCast v0
  let c128_649 : Index := 128#32
  let c1408_650 : Index := 1408#32
  ![v1244.toNat, 128, 1408]
def k0_off94 (i : grid0.Coords) : Fin 3 → Nat :=
  let arg0 : BitVec 32 := BitVec.ofNat 32 (i 0).val
  let c2_i32 : BitVec 32 := 2#32
  let v0 : BitVec 32 := Scalar.remsi arg0 c2_i32
  let v1345 : Index := Scalar.indexCast v0
  let c128_709 : Index := 128#32
  let c1536_710 : Index := 1536#32
  ![v1345.toNat, 128, 1536]
def k0_off95 (i : grid0.Coords) : Fin 3 → Nat :=
  let arg0 : BitVec 32 := BitVec.ofNat 32 (i 0).val
  let c2_i32 : BitVec 32 := 2#32
  let v0 : BitVec 32 := Scalar.remsi arg0 c2_i32
  let v1354 : Index := Scalar.indexCast v0
  let c128_711 : Index := 128#32
  let c1664_712 : Index := 1664#32
  ![v1354.toNat, 128, 1664]
def k0_off96 (i : grid0.Coords) : Fin 3 → Nat :=
  let arg0 : BitVec 32 := BitVec.ofNat 32 (i 0).val
  let c2_i32 : BitVec 32 := 2#32
  let v0 : BitVec 32 := Scalar.remsi arg0 c2_i32
  let v1363 : Index := Scalar.indexCast v0
  let c128_713 : Index := 128#32
  let c1792_714 : Index := 1792#32
  ![v1363.toNat, 128, 1792]
def k0_off97 (i : grid0.Coords) : Fin 3 → Nat :=
  let arg0 : BitVec 32 := BitVec.ofNat 32 (i 0).val
  let c2_i32 : BitVec 32 := 2#32
  let v0 : BitVec 32 := Scalar.remsi arg0 c2_i32
  let v1372 : Index := Scalar.indexCast v0
  let c128_715 : Index := 128#32
  let c1920_716 : Index := 1920#32
  ![v1372.toNat, 128, 1920]
def k0_off98 (i : grid0.Coords) : Fin 3 → Nat :=
  let arg0 : BitVec 32 := BitVec.ofNat 32 (i 0).val
  let c2_i32 : BitVec 32 := 2#32
  let v0 : BitVec 32 := Scalar.remsi arg0 c2_i32
  let v1473 : Index := Scalar.indexCast v0
  let c256_775 : Index := 256#32
  let c0_776 : Index := 0#32
  ![v1473.toNat, 256, 0]
def k0_off99 (i : grid0.Coords) : Fin 3 → Nat :=
  let arg0 : BitVec 32 := BitVec.ofNat 32 (i 0).val
  let c2_i32 : BitVec 32 := 2#32
  let v0 : BitVec 32 := Scalar.remsi arg0 c2_i32
  let v1482 : Index := Scalar.indexCast v0
  let c256_777 : Index := 256#32
  let c128_778 : Index := 128#32
  ![v1482.toNat, 256, 128]
def k0_off100 (i : grid0.Coords) : Fin 3 → Nat :=
  let arg0 : BitVec 32 := BitVec.ofNat 32 (i 0).val
  let c2_i32 : BitVec 32 := 2#32
  let v0 : BitVec 32 := Scalar.remsi arg0 c2_i32
  let v1491 : Index := Scalar.indexCast v0
  let c256_779 : Index := 256#32
  let c256_780 : Index := 256#32
  ![v1491.toNat, 256, 256]
def k0_off101 (i : grid0.Coords) : Fin 3 → Nat :=
  let arg0 : BitVec 32 := BitVec.ofNat 32 (i 0).val
  let c2_i32 : BitVec 32 := 2#32
  let v0 : BitVec 32 := Scalar.remsi arg0 c2_i32
  let v1500 : Index := Scalar.indexCast v0
  let c256_781 : Index := 256#32
  let c384_782 : Index := 384#32
  ![v1500.toNat, 256, 384]
def k0_off102 (i : grid0.Coords) : Fin 3 → Nat :=
  let arg0 : BitVec 32 := BitVec.ofNat 32 (i 0).val
  let c2_i32 : BitVec 32 := 2#32
  let v0 : BitVec 32 := Scalar.remsi arg0 c2_i32
  let v1601 : Index := Scalar.indexCast v0
  let c256_841 : Index := 256#32
  let c512_842 : Index := 512#32
  ![v1601.toNat, 256, 512]
def k0_off103 (i : grid0.Coords) : Fin 3 → Nat :=
  let arg0 : BitVec 32 := BitVec.ofNat 32 (i 0).val
  let c2_i32 : BitVec 32 := 2#32
  let v0 : BitVec 32 := Scalar.remsi arg0 c2_i32
  let v1610 : Index := Scalar.indexCast v0
  let c256_843 : Index := 256#32
  let c640_844 : Index := 640#32
  ![v1610.toNat, 256, 640]
def k0_off104 (i : grid0.Coords) : Fin 3 → Nat :=
  let arg0 : BitVec 32 := BitVec.ofNat 32 (i 0).val
  let c2_i32 : BitVec 32 := 2#32
  let v0 : BitVec 32 := Scalar.remsi arg0 c2_i32
  let v1619 : Index := Scalar.indexCast v0
  let c256_845 : Index := 256#32
  let c768_846 : Index := 768#32
  ![v1619.toNat, 256, 768]
def k0_off105 (i : grid0.Coords) : Fin 3 → Nat :=
  let arg0 : BitVec 32 := BitVec.ofNat 32 (i 0).val
  let c2_i32 : BitVec 32 := 2#32
  let v0 : BitVec 32 := Scalar.remsi arg0 c2_i32
  let v1628 : Index := Scalar.indexCast v0
  let c256_847 : Index := 256#32
  let c896_848 : Index := 896#32
  ![v1628.toNat, 256, 896]
def k0_off106 (i : grid0.Coords) : Fin 3 → Nat :=
  let arg0 : BitVec 32 := BitVec.ofNat 32 (i 0).val
  let c2_i32 : BitVec 32 := 2#32
  let v0 : BitVec 32 := Scalar.remsi arg0 c2_i32
  let v1729 : Index := Scalar.indexCast v0
  let c256_907 : Index := 256#32
  let c1024_908 : Index := 1024#32
  ![v1729.toNat, 256, 1024]
def k0_off107 (i : grid0.Coords) : Fin 3 → Nat :=
  let arg0 : BitVec 32 := BitVec.ofNat 32 (i 0).val
  let c2_i32 : BitVec 32 := 2#32
  let v0 : BitVec 32 := Scalar.remsi arg0 c2_i32
  let v1738 : Index := Scalar.indexCast v0
  let c256_909 : Index := 256#32
  let c1152_910 : Index := 1152#32
  ![v1738.toNat, 256, 1152]
def k0_off108 (i : grid0.Coords) : Fin 3 → Nat :=
  let arg0 : BitVec 32 := BitVec.ofNat 32 (i 0).val
  let c2_i32 : BitVec 32 := 2#32
  let v0 : BitVec 32 := Scalar.remsi arg0 c2_i32
  let v1747 : Index := Scalar.indexCast v0
  let c256_911 : Index := 256#32
  let c1280_912 : Index := 1280#32
  ![v1747.toNat, 256, 1280]
def k0_off109 (i : grid0.Coords) : Fin 3 → Nat :=
  let arg0 : BitVec 32 := BitVec.ofNat 32 (i 0).val
  let c2_i32 : BitVec 32 := 2#32
  let v0 : BitVec 32 := Scalar.remsi arg0 c2_i32
  let v1756 : Index := Scalar.indexCast v0
  let c256_913 : Index := 256#32
  let c1408_914 : Index := 1408#32
  ![v1756.toNat, 256, 1408]
def k0_off110 (i : grid0.Coords) : Fin 3 → Nat :=
  let arg0 : BitVec 32 := BitVec.ofNat 32 (i 0).val
  let c2_i32 : BitVec 32 := 2#32
  let v0 : BitVec 32 := Scalar.remsi arg0 c2_i32
  let v1857 : Index := Scalar.indexCast v0
  let c256_973 : Index := 256#32
  let c1536_974 : Index := 1536#32
  ![v1857.toNat, 256, 1536]
def k0_off111 (i : grid0.Coords) : Fin 3 → Nat :=
  let arg0 : BitVec 32 := BitVec.ofNat 32 (i 0).val
  let c2_i32 : BitVec 32 := 2#32
  let v0 : BitVec 32 := Scalar.remsi arg0 c2_i32
  let v1866 : Index := Scalar.indexCast v0
  let c256_975 : Index := 256#32
  let c1664_976 : Index := 1664#32
  ![v1866.toNat, 256, 1664]
def k0_off112 (i : grid0.Coords) : Fin 3 → Nat :=
  let arg0 : BitVec 32 := BitVec.ofNat 32 (i 0).val
  let c2_i32 : BitVec 32 := 2#32
  let v0 : BitVec 32 := Scalar.remsi arg0 c2_i32
  let v1875 : Index := Scalar.indexCast v0
  let c256_977 : Index := 256#32
  let c1792_978 : Index := 1792#32
  ![v1875.toNat, 256, 1792]
def k0_off113 (i : grid0.Coords) : Fin 3 → Nat :=
  let arg0 : BitVec 32 := BitVec.ofNat 32 (i 0).val
  let c2_i32 : BitVec 32 := 2#32
  let v0 : BitVec 32 := Scalar.remsi arg0 c2_i32
  let v1884 : Index := Scalar.indexCast v0
  let c256_979 : Index := 256#32
  let c1920_980 : Index := 1920#32
  ![v1884.toNat, 256, 1920]
def k0_off114 (i : grid0.Coords) : Fin 3 → Nat :=
  let arg0 : BitVec 32 := BitVec.ofNat 32 (i 0).val
  let c2_i32 : BitVec 32 := 2#32
  let v0 : BitVec 32 := Scalar.remsi arg0 c2_i32
  let v1985 : Index := Scalar.indexCast v0
  let c384_1039 : Index := 384#32
  let c0_1040 : Index := 0#32
  ![v1985.toNat, 384, 0]
def k0_off115 (i : grid0.Coords) : Fin 3 → Nat :=
  let arg0 : BitVec 32 := BitVec.ofNat 32 (i 0).val
  let c2_i32 : BitVec 32 := 2#32
  let v0 : BitVec 32 := Scalar.remsi arg0 c2_i32
  let v1994 : Index := Scalar.indexCast v0
  let c384_1041 : Index := 384#32
  let c128_1042 : Index := 128#32
  ![v1994.toNat, 384, 128]
def k0_off116 (i : grid0.Coords) : Fin 3 → Nat :=
  let arg0 : BitVec 32 := BitVec.ofNat 32 (i 0).val
  let c2_i32 : BitVec 32 := 2#32
  let v0 : BitVec 32 := Scalar.remsi arg0 c2_i32
  let v2003 : Index := Scalar.indexCast v0
  let c384_1043 : Index := 384#32
  let c256_1044 : Index := 256#32
  ![v2003.toNat, 384, 256]
def k0_off117 (i : grid0.Coords) : Fin 3 → Nat :=
  let arg0 : BitVec 32 := BitVec.ofNat 32 (i 0).val
  let c2_i32 : BitVec 32 := 2#32
  let v0 : BitVec 32 := Scalar.remsi arg0 c2_i32
  let v2012 : Index := Scalar.indexCast v0
  let c384_1045 : Index := 384#32
  let c384_1046 : Index := 384#32
  ![v2012.toNat, 384, 384]
def k0_off118 (i : grid0.Coords) : Fin 3 → Nat :=
  let arg0 : BitVec 32 := BitVec.ofNat 32 (i 0).val
  let c2_i32 : BitVec 32 := 2#32
  let v0 : BitVec 32 := Scalar.remsi arg0 c2_i32
  let v2113 : Index := Scalar.indexCast v0
  let c384_1105 : Index := 384#32
  let c512_1106 : Index := 512#32
  ![v2113.toNat, 384, 512]
def k0_off119 (i : grid0.Coords) : Fin 3 → Nat :=
  let arg0 : BitVec 32 := BitVec.ofNat 32 (i 0).val
  let c2_i32 : BitVec 32 := 2#32
  let v0 : BitVec 32 := Scalar.remsi arg0 c2_i32
  let v2122 : Index := Scalar.indexCast v0
  let c384_1107 : Index := 384#32
  let c640_1108 : Index := 640#32
  ![v2122.toNat, 384, 640]
def k0_off120 (i : grid0.Coords) : Fin 3 → Nat :=
  let arg0 : BitVec 32 := BitVec.ofNat 32 (i 0).val
  let c2_i32 : BitVec 32 := 2#32
  let v0 : BitVec 32 := Scalar.remsi arg0 c2_i32
  let v2131 : Index := Scalar.indexCast v0
  let c384_1109 : Index := 384#32
  let c768_1110 : Index := 768#32
  ![v2131.toNat, 384, 768]
def k0_off121 (i : grid0.Coords) : Fin 3 → Nat :=
  let arg0 : BitVec 32 := BitVec.ofNat 32 (i 0).val
  let c2_i32 : BitVec 32 := 2#32
  let v0 : BitVec 32 := Scalar.remsi arg0 c2_i32
  let v2140 : Index := Scalar.indexCast v0
  let c384_1111 : Index := 384#32
  let c896_1112 : Index := 896#32
  ![v2140.toNat, 384, 896]
def k0_off122 (i : grid0.Coords) : Fin 3 → Nat :=
  let arg0 : BitVec 32 := BitVec.ofNat 32 (i 0).val
  let c2_i32 : BitVec 32 := 2#32
  let v0 : BitVec 32 := Scalar.remsi arg0 c2_i32
  let v2175 : Index := Scalar.indexCast v0
  let c384_1117 : Index := 384#32
  let c1024_1118 : Index := 1024#32
  ![v2175.toNat, 384, 1024]
def k0_off123 (i : grid0.Coords) : Fin 3 → Nat :=
  let arg0 : BitVec 32 := BitVec.ofNat 32 (i 0).val
  let c2_i32 : BitVec 32 := 2#32
  let v0 : BitVec 32 := Scalar.remsi arg0 c2_i32
  let v2184 : Index := Scalar.indexCast v0
  let c384_1119 : Index := 384#32
  let c1152_1120 : Index := 1152#32
  ![v2184.toNat, 384, 1152]
def k0_off124 (i : grid0.Coords) : Fin 3 → Nat :=
  let arg0 : BitVec 32 := BitVec.ofNat 32 (i 0).val
  let c2_i32 : BitVec 32 := 2#32
  let v0 : BitVec 32 := Scalar.remsi arg0 c2_i32
  let v2193 : Index := Scalar.indexCast v0
  let c384_1121 : Index := 384#32
  let c1280_1122 : Index := 1280#32
  ![v2193.toNat, 384, 1280]
def k0_off125 (i : grid0.Coords) : Fin 3 → Nat :=
  let arg0 : BitVec 32 := BitVec.ofNat 32 (i 0).val
  let c2_i32 : BitVec 32 := 2#32
  let v0 : BitVec 32 := Scalar.remsi arg0 c2_i32
  let v2202 : Index := Scalar.indexCast v0
  let c384_1123 : Index := 384#32
  let c1408_1124 : Index := 1408#32
  ![v2202.toNat, 384, 1408]
def k0_off126 (i : grid0.Coords) : Fin 3 → Nat :=
  let arg0 : BitVec 32 := BitVec.ofNat 32 (i 0).val
  let c2_i32 : BitVec 32 := 2#32
  let v0 : BitVec 32 := Scalar.remsi arg0 c2_i32
  let v2237 : Index := Scalar.indexCast v0
  let c384_1129 : Index := 384#32
  let c1536_1130 : Index := 1536#32
  ![v2237.toNat, 384, 1536]
def k0_off127 (i : grid0.Coords) : Fin 3 → Nat :=
  let arg0 : BitVec 32 := BitVec.ofNat 32 (i 0).val
  let c2_i32 : BitVec 32 := 2#32
  let v0 : BitVec 32 := Scalar.remsi arg0 c2_i32
  let v2246 : Index := Scalar.indexCast v0
  let c384_1131 : Index := 384#32
  let c1664_1132 : Index := 1664#32
  ![v2246.toNat, 384, 1664]
def k0_off128 (i : grid0.Coords) : Fin 3 → Nat :=
  let arg0 : BitVec 32 := BitVec.ofNat 32 (i 0).val
  let c2_i32 : BitVec 32 := 2#32
  let v0 : BitVec 32 := Scalar.remsi arg0 c2_i32
  let v2255 : Index := Scalar.indexCast v0
  let c384_1133 : Index := 384#32
  let c1792_1134 : Index := 1792#32
  ![v2255.toNat, 384, 1792]
def k0_off129 (i : grid0.Coords) : Fin 3 → Nat :=
  let arg0 : BitVec 32 := BitVec.ofNat 32 (i 0).val
  let c2_i32 : BitVec 32 := 2#32
  let v0 : BitVec 32 := Scalar.remsi arg0 c2_i32
  let v2264 : Index := Scalar.indexCast v0
  let c384_1135 : Index := 384#32
  let c1920_1136 : Index := 1920#32
  ![v2264.toNat, 384, 1920]
def k0_cond3 (i : grid0.Coords) : BitVec 1 :=
  let arg0 : BitVec 32 := BitVec.ofNat 32 (i 0).val
  let c64_i32_3 : BitVec 32 := 64#32
  let v9 : BitVec 1 := Scalar.cmpi .eq arg0 c64_i32_3
  let v10 : BitVec 32 := Scalar.extui v9
  let c0_i32_4 : BitVec 32 := 0#32
  let v11 : BitVec 1 := Scalar.cmpi .ne v10 c0_i32_4
  v11

def k0_off130 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v13 : Index := Scalar.indexCast v12
  let c0 : Index := 0#32
  let c0_5 : Index := 0#32
  ![v13.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v17.toNat, v31.toNat, c0_i32_14.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c4_i32_12 : BitVec 32 := 4#32
  let v30 : BitVec 32 := Scalar.muli v29 c4_i32_12
  let c15_i32 : BitVec 32 := 15#32
  let v31 : BitVec 32 := Scalar.minsi v30 c15_i32
  let c0_i32_13 : BitVec 32 := 0#32
  let c0_i32_14 : BitVec 32 := 0#32
  ![v17.toNat, v31.toNat, c0_i32_13.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v17.toNat, c0_i32_14.toNat, v31.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c4_i32_12 : BitVec 32 := 4#32
  let v30 : BitVec 32 := Scalar.muli v29 c4_i32_12
  let c15_i32 : BitVec 32 := 15#32
  let v31 : BitVec 32 := Scalar.minsi v30 c15_i32
  let c0_i32_13 : BitVec 32 := 0#32
  let c0_i32_14 : BitVec 32 := 0#32
  ![v17.toNat, c0_i32_13.toNat, v31.toNat]

def cc0_transform_8 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, v17.toNat, c0_i32_5.toNat]

def cc0_transform_9 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S16x2048x4x8x64 : Shape := ⟨5, ![16, 2048, 4, 8, 64]⟩
abbrev S16x2048x4x64 : Shape := ⟨4, ![16, 2048, 4, 64]⟩
abbrev S16x256x4x64 : Shape := ⟨4, ![16, 256, 4, 64]⟩
abbrev S32 : Shape := ⟨1, ![32]⟩
abbrev S16x2048x2048 : Shape := ⟨3, ![16, 2048, 2048]⟩
abbrev S16x6x2048 : Shape := ⟨3, ![16, 6, 2048]⟩
abbrev S2048 : Shape := ⟨1, ![2048]⟩
abbrev S2048x2048 : Shape := ⟨2, ![2048, 2048]⟩
abbrev S_ : Shape := ⟨0, ![]⟩
abbrev S1x4x8x1x1 : Shape := ⟨5, ![1, 4, 8, 1, 1]⟩
abbrev S2048x1 : Shape := ⟨2, ![2048, 1]⟩
abbrev S1x2048 : Shape := ⟨2, ![1, 2048]⟩
abbrev S16x4x2048x2048x8 : Shape := ⟨5, ![16, 4, 2048, 2048, 8]⟩
abbrev S16x4x8x2048x2048 : Shape := ⟨5, ![16, 4, 8, 2048, 2048]⟩
abbrev S16x4x256x2048x8 : Shape := ⟨5, ![16, 4, 256, 2048, 8]⟩
abbrev S16x4x8x2048x256 : Shape := ⟨5, ![16, 4, 8, 2048, 256]⟩
abbrev S16x4x8x2048x1 : Shape := ⟨5, ![16, 4, 8, 2048, 1]⟩
abbrev S16x4x8x2048x2305 : Shape := ⟨5, ![16, 4, 8, 2048, 2305]⟩
abbrev S16x4x8x2048 : Shape := ⟨4, ![16, 4, 8, 2048]⟩
abbrev S16x4x64x8x2048 : Shape := ⟨5, ![16, 4, 64, 8, 2048]⟩
abbrev S16x1x2048 : Shape := ⟨3, ![16, 1, 2048]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x4x8x64, .f32⟩
  | .hbm, ⟨1, _⟩ => ⟨S16x2048x4x64, .f32⟩
  | .hbm, ⟨2, _⟩ => ⟨S16x2048x4x64, .f32⟩
  | .hbm, ⟨3, _⟩ => ⟨S16x256x4x64, .f32⟩
  | .hbm, ⟨4, _⟩ => ⟨S16x256x4x64, .f32⟩
  | .hbm, ⟨5, _⟩ => ⟨S32, .f32⟩
  | .hbm, ⟨6, _⟩ => ⟨S16x2048x2048, .f32⟩
  | .hbm, ⟨7, _⟩ => ⟨S16x6x2048, .f32⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S16x2048x4x8x64, .f32⟩
  | .hbm, ⟨12, _⟩ => ⟨S16x2048x4x8x64, .f32⟩
  | .hbm, ⟨13, _⟩ => ⟨S1x4x8x1x1, .f32⟩
  | .hbm, ⟨14, _⟩ => ⟨S2048, .i32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S16x4x2048x2048x8, .f32⟩
  | .hbm, ⟨25, _⟩ => ⟨S16x4x8x2048x2048, .f32⟩
  | .hbm, ⟨26, _⟩ => ⟨S_, .f32⟩
  | .hbm, ⟨27, _⟩ => ⟨S_, .f32⟩
  | .hbm, ⟨28, _⟩ => ⟨S16x4x8x2048x2048, .i1⟩
  | .hbm, ⟨29, _⟩ => ⟨S16x4x8x2048x2048, .f32⟩
  | .hbm, ⟨30, _⟩ => ⟨S16x4x8x2048x2048, .f32⟩
  | .hbm, ⟨31, _⟩ => ⟨S16x4x256x2048x8, .f32⟩
  | .hbm, ⟨32, _⟩ => ⟨S16x4x8x2048x256, .f32⟩
  | .hbm, ⟨33, _⟩ => ⟨S16x4x8x2048x1, .f32⟩
  | .hbm, ⟨34, _⟩ => ⟨S16x4x8x2048x2305, .f32⟩
  | .hbm, ⟨35, _⟩ => ⟨S_, .f32⟩
  | .hbm, ⟨36, _⟩ => ⟨S16x4x8x2048, .f32⟩
  | .hbm, ⟨37, _⟩ => ⟨S_, .f32⟩
  | .hbm, ⟨38, _⟩ => ⟨S16x4x8x2048, .f32⟩
  | .hbm, ⟨39, _⟩ => ⟨S16x4x8x2048, .f32⟩
  | .hbm, ⟨40, _⟩ => ⟨S16x4x8x2048x1, .f32⟩
  | .hbm, ⟨41, _⟩ => ⟨S16x4x8x2048x2305, .f32⟩
  | .hbm, ⟨42, _⟩ => ⟨S16x4x8x2048x2305, .f32⟩
  | .hbm, ⟨43, _⟩ => ⟨S16x4x8x2048x2305, .f32⟩
  | .hbm, ⟨44, _⟩ => ⟨S_, .f32⟩
  | .hbm, ⟨45, _⟩ => ⟨S16x4x8x2048, .f32⟩
  | .hbm, ⟨46, _⟩ => ⟨S16x4x8x2048x1, .f32⟩
  | .hbm, ⟨47, _⟩ => ⟨S16x4x8x2048x2305, .f32⟩
  | .hbm, ⟨48, _⟩ => ⟨S16x4x8x2048x2305, .f32⟩
  | .hbm, ⟨49, _⟩ => ⟨S16x4x8x2048x2048, .f32⟩
  | .hbm, ⟨50, _⟩ => ⟨S16x4x64x8x2048, .f32⟩
  | .hbm, ⟨51, _⟩ => ⟨S16x2048x4x8x64, .f32⟩
  | .hbm, ⟨52, _⟩ => ⟨S16x4x8x2048x256, .f32⟩
  | .hbm, ⟨53, _⟩ => ⟨S16x4x64x8x2048, .f32⟩
  | .hbm, ⟨54, _⟩ => ⟨S16x2048x4x8x64, .f32⟩
  | .hbm, ⟨55, _⟩ => ⟨S16x2048x4x8x64, .f32⟩
  | .hbm, ⟨56, _⟩ => ⟨S16x2048x2048, .f32⟩
  | .hbm, ⟨57, _⟩ => ⟨S16x2048x2048, .f32⟩
  | .hbm, ⟨58, _⟩ => ⟨S16x1x2048, .f32⟩
  | .hbm, ⟨59, _⟩ => ⟨S16x2048x2048, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x2048, .f32⟩
  | .hbm, ⟨71, _⟩ => ⟨S16x2048x2048, .f32⟩
  | .hbm, ⟨72, _⟩ => ⟨S1x1x2048, .f32⟩
  | .hbm, ⟨73, _⟩ => ⟨S16x2048x2048, .f32⟩
  | .hbm, ⟨74, _⟩ => ⟨S16x2048x2048, .f32⟩
  | .hbm, ⟨75, _⟩ => ⟨S16x2048x2048, .f32⟩
  | .hbm, ⟨76, _⟩ => ⟨S16x2048x2048, .f32⟩
  | .hbm, ⟨77, _⟩ => ⟨S16x2048x2048, .f32⟩
  | _, _ => ⟨S16x2048x4x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Qkv.lean ====
abbrev S16x2048x2048 : Shape := ⟨3, ![16, 2048, 2048]⟩
abbrev S16x6x2048 : Shape := ⟨3, ![16, 6, 2048]⟩
abbrev S2048 : Shape := ⟨1, ![2048]⟩
abbrev S2048x2560 : Shape := ⟨2, ![2048, 2560]⟩
abbrev S2048x64 : Shape := ⟨2, ![2048, 64]⟩
abbrev S2048x2048 : Shape := ⟨2, ![2048, 2048]⟩
abbrev S2048x256 : Shape := ⟨2, ![2048, 256]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S2048x2816 : Shape := ⟨2, ![2048, 2816]⟩
abbrev S_ : Shape := ⟨0, ![]⟩
abbrev S16 : Shape := ⟨1, ![16]⟩
abbrev S32 : Shape := ⟨1, ![32]⟩
abbrev S1x32 : Shape := ⟨2, ![1, 32]⟩
abbrev S2x32 : Shape := ⟨2, ![2, 32]⟩
abbrev S64 : Shape := ⟨1, ![64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S1x2048 : Shape := ⟨2, ![1, 2048]⟩
abbrev S16x2048x512 : Shape := ⟨3, ![16, 2048, 512]⟩
abbrev S16x256x2048 : Shape := ⟨3, ![16, 256, 2048]⟩
abbrev S1x512x2048 : Shape := ⟨3, ![1, 512, 2048]⟩
abbrev S1x6x2048 : Shape := ⟨3, ![1, 6, 2048]⟩
abbrev S512x128 : Shape := ⟨2, ![512, 128]⟩
abbrev S1x512x512 : Shape := ⟨3, ![1, 512, 512]⟩
abbrev S1x256x512 : Shape := ⟨3, ![1, 256, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x2816 : Shape := ⟨2, ![512, 2816]⟩
abbrev S512x512 : Shape := ⟨2, ![512, 512]⟩
abbrev S512x256 : Shape := ⟨2, ![512, 256]⟩
abbrev S256x512 : Shape := ⟨2, ![256, 512]⟩

abbrev nBuf : Space → Nat
  | .hbm => 36
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S2048, .f32⟩
  | .hbm, ⟨3, _⟩ => ⟨S2048x2560, .f32⟩
  | .hbm, ⟨4, _⟩ => ⟨S2048x64, .f32⟩
  | .hbm, ⟨5, _⟩ => ⟨S2048x64, .f32⟩
  | .hbm, ⟨6, _⟩ => ⟨S2048x2560, .bf16⟩
  | .hbm, ⟨7, _⟩ => ⟨S2048x2048, .bf16⟩
  | .hbm, ⟨8, _⟩ => ⟨S2048x256, .bf16⟩
  | .hbm, ⟨9, _⟩ => ⟨S2048x4x1x64, .bf16⟩
  | .hbm, ⟨10, _⟩ => ⟨S2048x4x2x64, .bf16⟩
  | .hbm, ⟨11, _⟩ => ⟨S2048x512, .bf16⟩
  | .hbm, ⟨12, _⟩ => ⟨S2048x256, .bf16⟩
  | .hbm, ⟨13, _⟩ => ⟨S2048x2816, .bf16⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S32, .f32⟩
  | .hbm, ⟨20, _⟩ => ⟨S1x32, .f32⟩
  | .hbm, ⟨21, _⟩ => ⟨S2x32, .f32⟩
  | .hbm, ⟨22, _⟩ => ⟨S64, .f32⟩
  | .hbm, ⟨23, _⟩ => ⟨S1x2048x1x64, .f32⟩
  | .hbm, ⟨24, _⟩ => ⟨S1x2048x2x64, .f32⟩
  | .hbm, ⟨25, _⟩ => ⟨S2048x128, .f32⟩
  | .hbm, ⟨26, _⟩ => ⟨S1x64, .f32⟩
  | .hbm, ⟨27, _⟩ => ⟨S2048x64, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S1x2048, .f32⟩
  | .hbm, ⟨33, _⟩ => ⟨S16x2048x2048, .bf16⟩
  | .hbm, ⟨34, _⟩ => ⟨S16x2048x512, .bf16⟩
  | .hbm, ⟨35, _⟩ => ⟨S16x256x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x2816, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x512, .bf16⟩
  | .local _ .vmem, ⟨13, _⟩ => ⟨S1x512x512, .bf16⟩
  | .local _ .vmem, ⟨14, _⟩ => ⟨S1x256x512, .bf16⟩
  | .local _ .vmem, ⟨15, _⟩ => ⟨S1x256x512, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvIdeal.lean ====
variable {F : FTy → Type} [FloatOps F] [Named F]
def κ : String → Option EReal := fun
  | "qscale" => some (((Real.log 256)⁻¹ : ℝ) : EReal)
  | _ => none
-- ==== QkvRefIdeal.lean ====
abbrev S16x2048x2048 : Shape := ⟨3, ![16, 2048, 2048]⟩
abbrev S16x6x2048 : Shape := ⟨3, ![16, 6, 2048]⟩
abbrev S2048 : Shape := ⟨1, ![2048]⟩
abbrev S2048x2560 : Shape := ⟨2, ![2048, 2560]⟩
abbrev S2048x64 : Shape := ⟨2, ![2048, 64]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x1x2048 : Shape := ⟨3, ![16, 1, 2048]⟩
abbrev S16x2048x2560 : Shape := ⟨3, ![16, 2048, 2560]⟩
abbrev S16x2048x4x8x64 : Shape := ⟨5, ![16, 2048, 4, 8, 64]⟩
abbrev S16x2048x256 : Shape := ⟨3, ![16, 2048, 256]⟩
abbrev S16x2048x4x64 : Shape := ⟨4, ![16, 2048, 4, 64]⟩
abbrev S16x2048x4x8x32 : Shape := ⟨5, ![16, 2048, 4, 8, 32]⟩
abbrev S16x2048x4x8x16 : Shape := ⟨5, ![16, 2048, 4, 8, 16]⟩
abbrev S2048x1x1x64 : Shape := ⟨4, ![2048, 1, 1, 64]⟩
abbrev S1x2048x1x1x64 : Shape := ⟨5, ![1, 2048, 1, 1, 64]⟩
abbrev S16x2048x4x32 : Shape := ⟨4, ![16, 2048, 4, 32]⟩
abbrev S16x2048x4x16 : Shape := ⟨4, ![16, 2048, 4, 16]⟩
abbrev S2048x1x64 : Shape := ⟨3, ![2048, 1, 64]⟩
abbrev S1x2048x1x64 : Shape := ⟨4, ![1, 2048, 1, 64]⟩
abbrev S16x2048x4x1x64 : Shape := ⟨5, ![16, 2048, 4, 1, 64]⟩
abbrev S16x2048x4x2x64 : Shape := ⟨5, ![16, 2048, 4, 2, 64]⟩
abbrev S16x2048x512 : Shape := ⟨3, ![16, 2048, 512]⟩
abbrev S16x256x2048 : Shape := ⟨3, ![16, 256, 2048]⟩

abbrev nBuf : Space → Nat
  | .hbm => 95
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S2048, .f32⟩
  | .hbm, ⟨3, _⟩ => ⟨S2048x2560, .f32⟩
  | .hbm, ⟨4, _⟩ => ⟨S2048x64, .f32⟩
  | .hbm, ⟨5, _⟩ => ⟨S2048x64, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S16x1x2048, .f32⟩
  | .hbm, ⟨23, _⟩ => ⟨S16x1x2048, .f32⟩
  | .hbm, ⟨24, _⟩ => ⟨S_, .f32⟩
  | .hbm, ⟨25, _⟩ => ⟨S16x1x2048, .f32⟩
  | .hbm, ⟨26, _⟩ => ⟨S16x1x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2560, .f32⟩
  | .hbm, ⟨32, _⟩ => ⟨S16x2048x2048, .f32⟩
  | .hbm, ⟨33, _⟩ => ⟨S16x2048x4x8x64, .f32⟩
  | .hbm, ⟨34, _⟩ => ⟨S16x2048x256, .f32⟩
  | .hbm, ⟨35, _⟩ => ⟨S16x2048x4x64, .f32⟩
  | .hbm, ⟨36, _⟩ => ⟨S16x2048x256, .f32⟩
  | .hbm, ⟨37, _⟩ => ⟨S16x2048x4x64, .f32⟩
  | .hbm, ⟨38, _⟩ => ⟨S16x2048x4x8x32, .f32⟩
  | .hbm, ⟨39, _⟩ => ⟨S16x2048x4x8x16, .f32⟩
  | .hbm, ⟨40, _⟩ => ⟨S16x2048x4x8x16, .f32⟩
  | .hbm, ⟨41, _⟩ => ⟨S16x2048x4x8x16, .f32⟩
  | .hbm, ⟨42, _⟩ => ⟨S16x2048x4x8x32, .f32⟩
  | .hbm, ⟨43, _⟩ => ⟨S16x2048x4x8x32, .f32⟩
  | .hbm, ⟨44, _⟩ => ⟨S16x2048x4x8x16, .f32⟩
  | .hbm, ⟨45, _⟩ => ⟨S16x2048x4x8x16, .f32⟩
  | .hbm, ⟨46, _⟩ => ⟨S16x2048x4x8x16, .f32⟩
  | .hbm, ⟨47, _⟩ => ⟨S16x2048x4x8x32, .f32⟩
  | .hbm, ⟨48, _⟩ => ⟨S16x2048x4x8x64, .f32⟩
  | .hbm, ⟨49, _⟩ => ⟨S2048x1x1x64, .f32⟩
  | .hbm, ⟨50, _⟩ => ⟨S1x2048x1x1x64, .f32⟩
  | .hbm, ⟨51, _⟩ => ⟨S16x2048x4x8x64, .f32⟩
  | .hbm, ⟨52, _⟩ => ⟨S16x2048x4x8x64, .f32⟩
  | .hbm, ⟨53, _⟩ => ⟨S2048x1x1x64, .f32⟩
  | .hbm, ⟨54, _⟩ => ⟨S1x2048x1x1x64, .f32⟩
  | .hbm, ⟨55, _⟩ => ⟨S16x2048x4x8x64, .f32⟩
  | .hbm, ⟨56, _⟩ => ⟨S16x2048x4x8x64, .f32⟩
  | .hbm, ⟨57, _⟩ => ⟨S16x2048x4x8x64, .f32⟩
  | .hbm, ⟨58, _⟩ => ⟨S_, .f32⟩
  | .hbm, ⟨59, _⟩ => ⟨S16x2048x4x8x64, .f32⟩
  | .hbm, ⟨60, _⟩ => ⟨S16x2048x4x8x64, .f32⟩
  | .hbm, ⟨61, _⟩ => ⟨S16x2048x4x32, .f32⟩
  | .hbm, ⟨62, _⟩ => ⟨S16x2048x4x16, .f32⟩
  | .hbm, ⟨63, _⟩ => ⟨S16x2048x4x16, .f32⟩
  | .hbm, ⟨64, _⟩ => ⟨S16x2048x4x16, .f32⟩
  | .hbm, ⟨65, _⟩ => ⟨S16x2048x4x32, .f32⟩
  | .hbm, ⟨66, _⟩ => ⟨S16x2048x4x32, .f32⟩
  | .hbm, ⟨67, _⟩ => ⟨S16x2048x4x16, .f32⟩
  | .hbm, ⟨68, _⟩ => ⟨S16x2048x4x16, .f32⟩
  | .hbm, ⟨69, _⟩ => ⟨S16x2048x4x16, .f32⟩
  | .hbm, ⟨70, _⟩ => ⟨S16x2048x4x32, .f32⟩
  | .hbm, ⟨71, _⟩ => ⟨S16x2048x4x64, .f32⟩
  | .hbm, ⟨72, _⟩ => ⟨S2048x1x64, .f32⟩
  | .hbm, ⟨73, _⟩ => ⟨S1x2048x1x64, .f32⟩
  | .hbm, ⟨74, _⟩ => ⟨S16x2048x4x64, .f32⟩
  | .hbm, ⟨75, _⟩ => ⟨S16x2048x4x64, .f32⟩
  | .hbm, ⟨76, _⟩ => ⟨S2048x1x64, .f32⟩
  | .hbm, ⟨77, _⟩ => ⟨S1x2048x1x64, .f32⟩
  | .hbm, ⟨78, _⟩ => ⟨S16x2048x4x64, .f32⟩
  | .hbm, ⟨79, _⟩ => ⟨S16x2048x4x64, .f32⟩
  | .hbm, ⟨80, _⟩ => ⟨S16x2048x4x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S16x2048x4x8x64, .f32⟩
  | .hbm, ⟨85, _⟩ => ⟨S16x2048x4x8x64, .f32⟩
  | .hbm, ⟨86, _⟩ => ⟨S16x2048x2048, .f32⟩
  | .hbm, ⟨87, _⟩ => ⟨S16x2048x4x1x64, .f32⟩
  | .hbm, ⟨88, _⟩ => ⟨S16x2048x4x2x64, .f32⟩
  | .hbm, ⟨89, _⟩ => ⟨S16x2048x512, .f32⟩
  | .hbm, ⟨90, _⟩ => ⟨S16x2048x256, .f32⟩
  | .hbm, ⟨91, _⟩ => ⟨S16x256x2048, .f32⟩
  | .hbm, ⟨92, _⟩ => ⟨S16x2048x2048, .bf16⟩
  | .hbm, ⟨93, _⟩ => ⟨S16x2048x512, .bf16⟩
  | .hbm, ⟨94, _⟩ => ⟨S16x256x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_4 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩

abbrev nD : Nat := 1
abbrev τ : Topo := Topo.v7x

variable {F : FTy → Type} [FloatOps F]
-- ==== QkvCtx.lean ====
abbrev S16x256x2048 : Shape := ⟨3, ![16, 256, 2048]⟩
abbrev S1x6x2048 : Shape := ⟨3, ![1, 6, 2048]⟩
abbrev S2048 : Shape := ⟨1, ![2048]⟩
abbrev S2048x2560 : Shape := ⟨2, ![2048, 2560]⟩
abbrev S2048x2048 : Shape := ⟨2, ![2048, 2048]⟩
abbrev S2048x256 : Shape := ⟨2, ![2048, 256]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S2048x2816 : Shape := ⟨2, ![2048, 2816]⟩
abbrev S1x4096x2048 : Shape := ⟨3, ![1, 4096, 2048]⟩
abbrev S1x2048 : Shape := ⟨2, ![1, 2048]⟩
abbrev S1x4096x512 : Shape := ⟨3, ![1, 4096, 512]⟩
abbrev S1x256x4096 : Shape := ⟨3, ![1, 256, 4096]⟩
abbrev S1x512x2048 : Shape := ⟨3, ![1, 512, 2048]⟩
abbrev S1x512x512 : Shape := ⟨3, ![1, 512, 512]⟩
abbrev S1x256x512 : Shape := ⟨3, ![1, 256, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x2816 : Shape := ⟨2, ![512, 2816]⟩
abbrev S512x512 : Shape := ⟨2, ![512, 512]⟩
abbrev S512x256 : Shape := ⟨2, ![512, 256]⟩
abbrev S256x512 : Shape := ⟨2, ![256, 512]⟩

abbrev nBuf : Space → Nat
  | .hbm => 17
  | .vmem => 11
  | .smem => 0
  | _ => 0

abbrev bufTy : (tb : Table) → Fin (tcTables nBuf tb) → BufTy
  | .hbm, ⟨0, _⟩ => ⟨S16x256x2048, .f32⟩
  | .hbm, ⟨1, _⟩ => ⟨S1x6x2048, .f32⟩
  | .hbm, ⟨2, _⟩ => ⟨S2048, .f32⟩
  | .hbm, ⟨3, _⟩ => ⟨S2048x2560, .f32⟩
  | .hbm, ⟨4, _⟩ => ⟨S2048x2560, .bf16⟩
  | .hbm, ⟨5, _⟩ => ⟨S2048x2048, .bf16⟩
  | .hbm, ⟨6, _⟩ => ⟨S2048x256, .bf16⟩
  | .hbm, ⟨7, _⟩ => ⟨S2048x4x1x64, .bf16⟩
  | .hbm, ⟨8, _⟩ => ⟨S2048x4x2x64, .bf16⟩
  | .hbm, ⟨9, _⟩ => ⟨S2048x512, .bf16⟩
  | .hbm, ⟨10, _⟩ => ⟨S2048x256, .bf16⟩
  | .hbm, ⟨11, _⟩ => ⟨S2048x2816, .bf16⟩
  | .hbm, ⟨12, _⟩ => ⟨S1x4096x2048, .f32⟩
  | .hbm, ⟨13, _⟩ => ⟨S1x2048, .f32⟩
  | .hbm, ⟨14, _⟩ => ⟨S1x4096x2048, .bf16⟩
  | .hbm, ⟨15, _⟩ => ⟨S1x4096x512, .bf16⟩
  | .hbm, ⟨16, _⟩ => ⟨S1x256x4096, .bf16⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x2048, .f32⟩
  | .local _ .vmem, ⟨4, _⟩ => ⟨S2048x2816, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x512, .bf16⟩
  | .local _ .vmem, ⟨8, _⟩ => ⟨S1x512x512, .bf16⟩
  | .local _ .vmem, ⟨9, _⟩ => ⟨S1x256x512, .bf16⟩
  | .local _ .vmem, ⟨10, _⟩ => ⟨S1x256x512, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvCtxIdeal.lean ====
variable {F : FTy → Type} [FloatOps F] [Named F]
def κ : String → Option EReal := fun
  | "qscale" => some (((Real.log 256)⁻¹ : ℝ) : EReal)
  | _ => none
-- ==== QkvCtxRefIdeal.lean ====
abbrev S16x256x2048 : Shape := ⟨3, ![16, 256, 2048]⟩
abbrev S1x6x2048 : Shape := ⟨3, ![1, 6, 2048]⟩
abbrev S2048 : Shape := ⟨1, ![2048]⟩
abbrev S2048x2560 : Shape := ⟨2, ![2048, 2560]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S16x256x2560 : Shape := ⟨3, ![16, 256, 2560]⟩
abbrev S16x256x4x8x64 : Shape := ⟨5, ![16, 256, 4, 8, 64]⟩
abbrev S16x256x256 : Shape := ⟨3, ![16, 256, 256]⟩
abbrev S16x256x4x64 : Shape := ⟨4, ![16, 256, 4, 64]⟩
abbrev S1x4096x2048 : Shape := ⟨3, ![1, 4096, 2048]⟩
abbrev S16x256x4x1x64 : Shape := ⟨5, ![16, 256, 4, 1, 64]⟩
abbrev S16x256x4x2x64 : Shape := ⟨5, ![16, 256, 4, 2, 64]⟩
abbrev S1x4096x512 : Shape := ⟨3, ![1, 4096, 512]⟩
abbrev S1x4096x256 : Shape := ⟨3, ![1, 4096, 256]⟩
abbrev S1x256x4096 : Shape := ⟨3, ![1, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x6x2048, .f32⟩
  | .hbm, ⟨2, _⟩ => ⟨S2048, .f32⟩
  | .hbm, ⟨3, _⟩ => ⟨S2048x2560, .f32⟩
  | .hbm, ⟨4, _⟩ => ⟨S16x256x2048, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | .hbm, ⟨20, _⟩ => ⟨S1x1x2048, .f32⟩
  | .hbm, ⟨21, _⟩ => ⟨S1x1x2048, .f32⟩
  | .hbm, ⟨22, _⟩ => ⟨S_, .f32⟩
  | .hbm, ⟨23, _⟩ => ⟨S1x1x2048, .f32⟩
  | .hbm, ⟨24, _⟩ => ⟨S1x1x2048, .f32⟩
  | .hbm, ⟨25, _⟩ => ⟨S16x256x2048, .f32⟩
  | .hbm, ⟨26, _⟩ => ⟨S16x256x2048, .f32⟩
  | .hbm, ⟨27, _⟩ => ⟨S16x256x2048, .f32⟩
  | .hbm, ⟨28, _⟩ => ⟨S16x256x2048, .f32⟩
  | .hbm, ⟨29, _⟩ => ⟨S16x256x2560, .f32⟩
  | .hbm, ⟨30, _⟩ => ⟨S16x256x2048, .f32⟩
  | .hbm, ⟨31, _⟩ => ⟨S16x256x4x8x64, .f32⟩
  | .hbm, ⟨32, _⟩ => ⟨S16x256x256, .f32⟩
  | .hbm, ⟨33, _⟩ => ⟨S16x256x4x64, .f32⟩
  | .hbm, ⟨34, _⟩ => ⟨S16x256x256, .f32⟩
  | .hbm, ⟨35, _⟩ => ⟨S16x256x4x64, .f32⟩
  | .hbm, ⟨36, _⟩ => ⟨S_, .f32⟩
  | .hbm, ⟨37, _⟩ => ⟨S16x256x4x8x64, .f32⟩
  | .hbm, ⟨38, _⟩ => ⟨S16x256x4x8x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x256x4x8x64, .f32⟩
  | .hbm, ⟨43, _⟩ => ⟨S16x256x4x8x64, .f32⟩
  | .hbm, ⟨44, _⟩ => ⟨S1x4096x2048, .f32⟩
  | .hbm, ⟨45, _⟩ => ⟨S16x256x4x1x64, .f32⟩
  | .hbm, ⟨46, _⟩ => ⟨S16x256x4x2x64, .f32⟩
  | .hbm, ⟨47, _⟩ => ⟨S1x4096x512, .f32⟩
  | .hbm, ⟨48, _⟩ => ⟨S1x4096x256, .f32⟩
  | .hbm, ⟨49, _⟩ => ⟨S1x256x4096, .f32⟩
  | .hbm, ⟨50, _⟩ => ⟨S1x4096x2048, .bf16⟩
  | .hbm, ⟨51, _⟩ => ⟨S1x4096x512, .bf16⟩
  | .hbm, ⟨52, _⟩ => ⟨S1x256x4096, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Proof.FfnScalar.lean ====
/- The feed-forward block as scalar mathematics over the extended reals: one row of tokens is normalised by its root mean
   square, modulated, taken through a gated product with 5632 hidden features, normalised again and added to the row it came
   from. Nothing here depends on how either program is cut into blocks. -/
module

public import Idealize.ShloMosaic.Lib.Pointwise
public import Idealize.ShloMosaic.Lib.Pipeline.CanonAppend
public import Idealize.ShloMosaic.Lib.Pipeline.ReadBack

@[expose] public section

set_option maxRecDepth 16384

noncomputable section

namespace Cert.Math

open Idealize.ShloMosaic

/-- Feature `k` of a row divided by the root mean square of the row (the two constants are 2048 and the floor 1e-6). -/
def rowNorm (X : Fin 2048 → EReal) (k : Fin 2048) : EReal :=
  X k * Ideal.rsqrt (Ideal.div (∑ j, X j * X j) (Ideal.ofBits FTy.f32 1157627904#32) + Ideal.ofBits FTy.f32 897988541#32)

/-- The gated product of a row with one gate column and one up column. -/
def gated (H G U : Fin 2048 → EReal) : EReal :=
  (∑ k, H k * G k) * Ideal.logistic (∑ k, H k * G k) * ∑ k, H k * U k

/-- Stores of which the last `n` cover an element and are blocks of `G`: whatever was stored before, the element reads `G`. -/
theorem canon_of_last_pieces {s : Shape} {e : EltTy} {Val : EltTy → Type} [∀ e, Nonempty (Val e)] (G : s.Idx → Val e)
    (L : List (View.Piece Val s e)) (n : ℕ) (h : View.PiecesOf G (L.take n)) (y : s.Idx) (hc : ∃ p ∈ L.take n, y ∈ p.1.set) :
    View.canon L y = G y := by
  conv_lhs => rw [← List.take_append_drop n L]
  exact View.canon_append_of_piecesOf G _ _ h y hc

end Cert.Math
end
-- ==== Proof.FfnBlocks.lean ====
/- What one grid point of the feed-forward kernel leaves, at an index, in terms of the blocks it was given: the normalised rows
   in the scratch, the accumulated product, and at the last point of a run the normalised product added to the input rows. -/
module

public import proofs.«01_k».proof.Proof.Gen.FfnIdeal.Frame
public import Idealize.ShloMosaic.Lib.Pipeline.ValueKit
public import proofs.«01_k».proof.Proof.FfnScalar

@[expose] public section

set_option maxRecDepth 16384

noncomputable section

namespace Cert.FfnIdeal.Math

open Cert.FfnIdeal Cert.FfnIdeal.Gen Cert.Math Idealize.ShloMosaic Idealize.ShloMosaic.TcCoe Idealize.SL.Sem
open Idealize.ShloMosaic.Pipeline (Dat)

variable (m : (ℓ : Loc nD τ sig) → Buf (Elt Ideal) ℓ)

/-- The normalised and modulated rows of a block of tokens. -/
def hid (x0 : FVec Ideal S1x1024x2048 .f32) (x1 : FVec Ideal S1x6x2048 .f32) (x2 : FVec Ideal S1x2048 .f32) : FVec Ideal S1024x2048 .bf16 :=
  fun y => rowNorm (fun j => x0 (ix3 0 (y 0) j)) (y 1) * (x2 (ix2 0 (y 1)) * (1 + x1 (ix3 0 4 (y 1)))) + x1 (ix3 0 3 (y 1))

/-- The product of the gated features of one chunk with the chunk's rows of the down projection. -/
def part (h : FVec Ideal S1024x2048 .bf16) (wg wu : FVec Ideal S1x2048x512 .bf16) (wd : FVec Ideal S512x2048 .bf16) (r : Fin 1024) (k : Fin 2048) : EReal :=
  (∑ x : Fin 256, gated (fun d => h (ix2 r d)) (fun d => wg (ix3 0 d ⟨x.val, by omega⟩)) (fun d => wu (ix3 0 d ⟨x.val, by omega⟩)) * wd (ix2 ⟨x.val, by omega⟩ k))
  + ∑ x : Fin 256, gated (fun d => h (ix2 r d)) (fun d => wg (ix3 0 d ⟨256 + x.val, by omega⟩)) (fun d => wu (ix3 0 d ⟨256 + x.val, by omega⟩)) * wd (ix2 ⟨256 + x.val, by omega⟩ k)

/-- The finished rows: the input rows plus the weighted normalised rows of `z`. -/
def fin (x0 : FVec Ideal S1x1024x2048 .f32) (x1 : FVec Ideal S1x6x2048 .f32) (x3 : FVec Ideal S1x2048 .f32) (z : Fin 1024 → Fin 2048 → EReal) : FVec Ideal S1x1024x2048 .f32 :=
  fun y => x0 (ix3 0 (y 1) (y 2)) + rowNorm (z (y 1)) (y 2) * (x1 (ix3 0 5 (y 2)) * x3 (ix2 0 (y 2)))

/-- One slab of sixteen normalised rows, wherever it starts. -/
theorem slab_apply (x0 : FVec Ideal S1x1024x2048 .f32) (x1 : FVec Ideal S1x6x2048 .f32) (x2 : FVec Ideal S1x2048 .f32) (o : ℕ)
    (inb : ∀ a, (![0, o, 0] : Fin 3 → ℕ) a + S1x16x2048.size a ≤ S1x1024x2048.size a)
    (inb' : ∀ a, (![o, 0] : Fin 2 → ℕ) a + S16x2048.size a ≤ S1024x2048.size a) (x : S16x2048.Idx) :
    k0_pay10 (F := Ideal) (k0_pay4 x2
        (View.ld x1 (Rect.unit (s := S1x6x2048) ![0, 4, 0] S1x1x2048.size inb_S1x6x2048_S1x1x2048_0_4_0)))
      (k0_pay5 (View.ld x1 (Rect.unit (s := S1x6x2048) ![0, 3, 0] S1x1x2048.size inb_S1x6x2048_S1x1x2048_0_3_0)))
      (View.ld x0 (Rect.unit (s := S1x1024x2048) ![0, o, 0] S1x16x2048.size inb)) x
      = hid x0 x1 x2 ((Rect.unit (s := S1024x2048) ![o, 0] S16x2048.size inb').emb x) := by
  idx_vars x
  unfold_payloads
  pointwise [hid, rowNorm]
  blk_point []

/-- One slab of sixteen finished rows, wherever it starts. -/
theorem slabE_apply (x0 : FVec Ideal S1x1024x2048 .f32) (x1 : FVec Ideal S1x6x2048 .f32) (x3 : FVec Ideal S1x2048 .f32) (z : FVec Ideal S1x1024x2048 .f32) (o : ℕ)
    (inb : ∀ a, (![0, o, 0] : Fin 3 → ℕ) a + S1x16x2048.size a ≤ S1x1024x2048.size a) (x : S1x16x2048.Idx) :
    k0_pay241 (F := Ideal) (k0_pay118
        (View.ld x1 (Rect.unit (s := S1x6x2048) ![0, 5, 0] S1x1x2048.size inb_S1x6x2048_S1x1x2048_0_5_0)) x3)
      (View.ld x0 (Rect.unit (s := S1x1024x2048) ![0, o, 0] S1x16x2048.size inb)) (View.ld z (Rect.unit (s := S1x1024x2048) ![0, o, 0] S1x16x2048.size inb)) x
      = fin x0 x1 x3 (fun r k => z (ix3 0 r k)) ((Rect.unit (s := S1x1024x2048) ![0, o, 0] S1x16x2048.size inb).emb x) := by
  idx_vars x
  unfold_payloads
  pointwise [fin, rowNorm]
  blk_point []

/-- The first chunk's product. -/
theorem first_apply (h : FVec Ideal S1024x2048 .bf16) (wg wu : FVec Ideal S1x2048x512 .bf16) (wd : FVec Ideal S512x2048 .bf16) (y : S1x1024x2048.Idx) :
    k0_pay1 (F := Ideal)
      (k0_pay113 h (View.ld wg (Rect.unit (s := S1x2048x512) ![0, 0, 0] ![1, 2048, 256] inb_S1x2048x512_S1x2048x256_0_0_0))
        (View.ld wu (Rect.unit (s := S1x2048x512) ![0, 0, 0] ![1, 2048, 256] inb_S1x2048x512_S1x2048x256_0_0_0))
        (View.ld wd (Rect.unit (s := S512x2048) ![0, 0] ![256, 2048] inb_S512x2048_S256x2048_0_0)))
      (k0_pay114 h (View.ld wg (Rect.unit (s := S1x2048x512) ![0, 0, 256] ![1, 2048, 256] inb_S1x2048x512_S1x2048x256_0_0_256))
        (View.ld wu (Rect.unit (s := S1x2048x512) ![0, 0, 256] ![1, 2048, 256] inb_S1x2048x512_S1x2048x256_0_0_256)))
      (View.ld wd (Rect.unit (s := S512x2048) ![256, 0] ![256, 2048] inb_S512x2048_S256x2048_256_0)) y = part h wg wu wd (y 1) (y 2) := by
  idx_vars y
  unfold_payloads
  pointwise [part, gated]
  try rfl

/-- What a later chunk stores: its product added to what was there. -/
def accNext (h : FVec Ideal S1024x2048 .bf16) (wg wu : FVec Ideal S1x2048x512 .bf16) (wd : FVec Ideal S512x2048 .bf16) (acc : FVec Ideal S1x1024x2048 .f32) : FVec Ideal S1x1024x2048 .f32 :=
  k0_pay2 (F := Ideal)
      (k0_pay115 h
        (View.ld wg (Rect.unit (s := S1x2048x512) ![0, 0, 0] ![1, 2048, 256] inb_S1x2048x512_S1x2048x256_0_0_0))
        (View.ld wu (Rect.unit (s := S1x2048x512) ![0, 0, 0] ![1, 2048, 256] inb_S1x2048x512_S1x2048x256_0_0_0))
        (View.ld wd (Rect.unit (s := S512x2048) ![0, 0] ![256, 2048] inb_S512x2048_S256x2048_0_0))
        (View.ld wg (Rect.unit (s := S1x2048x512) ![0, 0, 256] ![1, 2048, 256] inb_S1x2048x512_S1x2048x256_0_0_256))
        (View.ld wu (Rect.unit (s := S1x2048x512) ![0, 0, 256] ![1, 2048, 256] inb_S1x2048x512_S1x2048x256_0_0_256))
        (View.ld wd (Rect.unit (s := S512x2048) ![256, 0] ![256, 2048] inb_S512x2048_S256x2048_256_0)) acc)

theorem accNext_apply (h : FVec Ideal S1024x2048 .bf16) (wg wu : FVec Ideal S1x2048x512 .bf16) (wd : FVec Ideal S512x2048 .bf16) (acc : FVec Ideal S1x1024x2048 .f32) (y : S1x1024x2048.Idx) :
    accNext h wg wu wd acc y = acc y + part h wg wu wd (y 1) (y 2) := by
  idx_vars y
  unfold accNext
  unfold_payloads
  pointwise [part, gated]
  obtain rfl : y0 = 0 := Fin.eq_zero y0
  rfl

theorem scratch_A (c : Dev nD) (t : Fin cfg0.N) (h0 : t.val % 11 = 0) (h1 : ¬(1 ≤ t.val % 11 ∧ t.val % 11 ≤ 9)) (h2 : ¬t.val % 11 = 10) :
    (outsAt0 m c t.val t.isLt).2 = hid (iblk m c 0 t) (iblk m c 1 t) (iblk m c 2 t) := by
  funext y
  rw [outsAt0_A m c t h0 h1 h2]
  frame_out
  refine View.canon_apply_of_pieces _ _ (View.PiecesOf.mem ?_) y (View.cover_of_tiledL _ ![16, 2048] (by sl_kernel_rfl) y)
  iterate 64 refine ⟨fun x => Eq.trans ?_ (slab_apply _ _ _ _ (by decide) (by decide) x), ?_⟩; · rfl
  trivial

theorem out_A (c : Dev nD) (t : Fin cfg0.N) (h0 : t.val % 11 = 0) (h1 : ¬(1 ≤ t.val % 11 ∧ t.val % 11 ≤ 9)) (h2 : ¬t.val % 11 = 10) (y : S1x1024x2048.Idx) :
    (outsAt0 m c t.val t.isLt).1 y = part (hid (iblk m c 0 t) (iblk m c 1 t) (iblk m c 2 t)) (iblk m c 4 t) (iblk m c 5 t) (iblk m c 6 t) (y 1) (y 2) := by
  rw [outsAt0_A m c t h0 h1 h2]
  frame_out
  generalize hH : View.readCov (Val := Elt Ideal) (View.whole cc0_scratch0) _ _ = H
  have hh : H = hid (iblk m c 0 t) (iblk m c 1 t) (iblk m c 2 t) := by
    rw [← hH, View.readCov_eq_canon']
    funext y
    refine (View.canon_apply_of_pieces (hid (iblk m c 0 t) (iblk m c 1 t) (iblk m c 2 t)) _ (View.PiecesOf.mem ?_) _ (View.cover_of_tiledL _ ![16, 2048] (by sl_kernel_rfl) _)).trans ?_
    · iterate 64 refine ⟨fun x => Eq.trans ?_ (slab_apply _ _ _ _ (by decide) (by decide) x), ?_⟩; · rfl
      trivial
    · exact congrFun (View.ld_unit_lit (Val := Elt Ideal) (e := .bf16) (S := S1024x2048) inb_S1024x2048_S1024x2048_0_0 (hid (iblk m c 0 t) (iblk m c 1 t) (iblk m c 2 t)) (by decide)) y
  rw [hh]
  exact first_apply _ _ _ _ y

theorem scratch_B (c : Dev nD) (t : Fin cfg0.N) (h0 : ¬ t.val % 11 = 0) (h1 : (1 ≤ t.val % 11 ∧ t.val % 11 ≤ 9)) (h2 : ¬t.val % 11 = 10) :
    (outsAt0 m c t.val t.isLt).2 = (outsAt0 m c (t.val - 1) (Nat.lt_of_le_of_lt (Nat.sub_le _ _) t.isLt)).2 := by
  rw [outsAt0_B m c t h0 h1 h2]
  rfl

theorem out_B (c : Dev nD) (t : Fin cfg0.N) (h0 : ¬ t.val % 11 = 0) (h1 : (1 ≤ t.val % 11 ∧ t.val % 11 ≤ 9)) (h2 : ¬t.val % 11 = 10) (y : S1x1024x2048.Idx) :
    (outsAt0 m c t.val t.isLt).1 y = (outsAt0 m c (t.val - 1) (Nat.lt_of_le_of_lt (Nat.sub_le _ _) t.isLt)).1 y
      + part (outsAt0 m c (t.val - 1) (Nat.lt_of_le_of_lt (Nat.sub_le _ _) t.isLt)).2 (iblk m c 4 t) (iblk m c 5 t) (iblk m c 6 t) (y 1) (y 2) := by
  rw [outsAt0_B m c t h0 h1 h2]
  frame_out
  simp only [read_unread_whole]
  exact accNext_apply _ _ _ _ _ y

theorem out_C (c : Dev nD) (t : Fin cfg0.N) (h0 : ¬ t.val % 11 = 0) (h1 : ¬ (1 ≤ t.val % 11 ∧ t.val % 11 ≤ 9)) (h2 : t.val % 11 = 10) (y : S1x1024x2048.Idx) :
    (outsAt0 m c t.val t.isLt).1 y = fin (iblk m c 0 t) (iblk m c 1 t) (iblk m c 3 t)
      (fun r k => (outsAt0 m c (t.val - 1) (Nat.lt_of_le_of_lt (Nat.sub_le _ _) t.isLt)).1 (ix3 0 r k)
        + part (outsAt0 m c (t.val - 1) (Nat.lt_of_le_of_lt (Nat.sub_le _ _) t.isLt)).2 (iblk m c 4 t) (iblk m c 5 t) (iblk m c 6 t) r k) y := by
  rw [outsAt0_C m c t h0 h1 h2]
  frame_open
  simp (disch := decide) only [↓ View.readCov_skip, ↓ View.readCov_cons_toLoadRect, ↓ View.readCov_fill]
  frame_out
  simp only [read_unread_whole]
  refine Eq.trans (canon_of_last_pieces (fin (iblk m c 0 t) (iblk m c 1 t) (iblk m c 3 t)
    (fun r k => accNext (outsAt0 m c (t.val - 1) (Nat.lt_of_le_of_lt (Nat.sub_le _ _) t.isLt)).2 (iblk m c 4 t) (iblk m c 5 t) (iblk m c 6 t)
      (outsAt0 m c (t.val - 1) (Nat.lt_of_le_of_lt (Nat.sub_le _ _) t.isLt)).1 (ix3 0 r k))) _ 64 ?_ y
      (View.cover_of_tiledL (List.take 64 _) ![1, 16, 2048] (by sl_kernel_rfl) y)) ?_
  · iterate 64 refine ⟨fun x => Eq.trans ?_ (slabE_apply _ _ _ (accNext _ _ _ _ _) _ (by decide) x), ?_⟩; · rfl
    trivial
  · simp only [accNext_apply]; rfl

end Cert.FfnIdeal.Math
end
-- ==== Proof.FfnRun.lean ====
/- The feed-forward kernel's run over its grid, in terms of the argument arrays: after the points of one run the output block
   holds the sum over the hidden features walked so far, and the run's last point leaves the finished rows. -/
module

public import proofs.«01_k».proof.Proof.FfnBlocks
public import Idealize.ShloMosaic.Lib.Tactic.ValueTie

@[expose] public section

set_option maxRecDepth 16384

noncomputable section

namespace Cert.FfnIdeal.Math

open Cert.FfnIdeal Cert.FfnIdeal.Gen Cert.Math Idealize.ShloMosaic Idealize.ShloMosaic.TcCoe Idealize.SL.Sem
open Idealize.ShloMosaic.Pipeline (Dat)

variable (m : (ℓ : Loc nD τ sig) → Buf (Elt Ideal) ℓ)

/-- The argument arrays, typed by their shapes. -/
abbrev aX (c : Dev nD) : FVec Ideal S16x2048x2048 .f32 := m ((c : Thread nD τ).loc main_arg0)
abbrev aMod (c : Dev nD) : FVec Ideal S16x6x2048 .f32 := m ((c : Thread nD τ).loc main_arg1)
abbrev aPre (c : Dev nD) : FVec Ideal S2048 .f32 := m ((c : Thread nD τ).loc main_arg2)
abbrev aPost (c : Dev nD) : FVec Ideal S2048 .f32 := m ((c : Thread nD τ).loc main_arg3)
abbrev aUp (c : Dev nD) : FVec Ideal S2048x11264 .f32 := m ((c : Thread nD τ).loc main_arg4)
abbrev aDown (c : Dev nD) : FVec Ideal S5632x2048 .f32 := m ((c : Thread nD τ).loc main_arg5)

/-- The block index of every window at every grid point: batch `t / 22`, row tile `t / 11 % 2`, chunk `t % 11`. -/
theorem idx : ∀ t : Fin cfg0.N, win0_0.index t = ![t.val / 22, t.val / 11 % 2, 0] ∧ win0_1.index t = ![t.val / 22, 0, 0]
    ∧ win0_2.index t = ![0, 0] ∧ win0_3.index t = ![0, 0] ∧ win0_4.index t = ![t.val % 11, 0, 0] ∧ win0_5.index t = ![11 + t.val % 11, 0, 0]
    ∧ win0_6.index t = ![t.val % 11, 0] ∧ win0_7.index t = ![t.val / 22, t.val / 11 % 2, 0] ∧ t.val / 22 < 16 :=
  (by decide +kernel : ∀ t : Fin grid0.N, _)

theorem blk0 (c : Dev nD) (t : Fin cfg0.N) (r : Fin 1024) (k : Fin 2048) (b : Fin 16) (r' : Fin 2048) (hb : b.val = t.val / 22) (hr : r'.val = t.val / 11 % 2 * 1024 + r.val) :
    (iblk m c 0 t : FVec Ideal S1x1024x2048 .f32) (ix3 0 r k) = aX m c (ix3 b r' k) := by
  blk_ext [iblk, V, idx t]
theorem blk1 (c : Dev nD) (t : Fin cfg0.N) (s : Fin 6) (k : Fin 2048) (b : Fin 16) (hb : b.val = t.val / 22) :
    (iblk m c 1 t : FVec Ideal S1x6x2048 .f32) (ix3 0 s k) = aMod m c (ix3 b s k) := by
  blk_ext [iblk, V, idx t]
theorem blk2 (c : Dev nD) (t : Fin cfg0.N) (k : Fin 2048) :
    (iblk m c 2 t : FVec Ideal S1x2048 .f32) (ix2 0 k) = aPre m c (ix1 k) := by
  blk_simp [iblk, V, idx t]
  entry_read
  pointwise
  blk_ext [idx t]
theorem blk3 (c : Dev nD) (t : Fin cfg0.N) (k : Fin 2048) :
    (iblk m c 3 t : FVec Ideal S1x2048 .f32) (ix2 0 k) = aPost m c (ix1 k) := by
  blk_simp [iblk, V, idx t]
  entry_read
  pointwise
  blk_ext [idx t]
theorem blk4 (c : Dev nD) (t : Fin cfg0.N) (d : Fin 2048) (x : Fin 512) (l : Fin 11264) (hl : l.val = 512 * (t.val % 11) + x.val) :
    (iblk m c 4 t : FVec Ideal S1x2048x512 .bf16) (ix3 0 d x) = aUp m c (ix2 d l) := by
  blk_simp [iblk, V, idx t]
  entry_read
  pointwise
  blk_ext [idx t]
theorem blk5 (c : Dev nD) (t : Fin cfg0.N) (d : Fin 2048) (x : Fin 512) (l : Fin 11264) (hl : l.val = 5632 + 512 * (t.val % 11) + x.val) :
    (iblk m c 5 t : FVec Ideal S1x2048x512 .bf16) (ix3 0 d x) = aUp m c (ix2 d l) := by
  blk_simp [iblk, V, idx t]
  entry_read
  pointwise
  blk_ext [idx t]
theorem blk6 (c : Dev nD) (t : Fin cfg0.N) (x : Fin 512) (k : Fin 2048) (l : Fin 5632) (hl : l.val = 512 * (t.val % 11) + x.val) :
    (iblk m c 6 t : FVec Ideal S512x2048 .bf16) (ix2 x k) = aDown m c (ix2 l k) := by
  blk_ext [iblk, V, idx t]

/-- The normalised and modulated row of one token. -/
def hidRow (c : Dev nD) (b : Fin 16) (r : Fin 2048) : Fin 2048 → EReal := fun k =>
  rowNorm (fun j => aX m c (ix3 b r j)) k * (aPre m c (ix1 k) * (1 + aMod m c (ix3 b 4 k))) + aMod m c (ix3 b 3 k)

/-- What the hidden feature `l` adds to the token's output at column `k`. -/
def feat (c : Dev nD) (b : Fin 16) (r : Fin 2048) (k : Fin 2048) (l : Fin 5632) : EReal :=
  gated (hidRow m c b r) (fun d => aUp m c (ix2 d ⟨l.val, by omega⟩)) (fun d => aUp m c (ix2 d ⟨5632 + l.val, by omega⟩)) * aDown m c (ix2 l k)

/-- The same for a feature given by its number. -/
def featN (c : Dev nD) (b : Fin 16) (r : Fin 2048) (k : Fin 2048) (l : ℕ) : EReal := if h : l < 5632 then feat m c b r k ⟨l, h⟩ else 0

theorem part_eq (c : Dev nD) (t : Fin cfg0.N) (h : FVec Ideal S1024x2048 .bf16) (r : Fin 1024) (k : Fin 2048) (b : Fin 16) (r' : Fin 2048)
    (hh : ∀ d, h (ix2 r d) = hidRow m c b r' d) :
    part h (iblk m c 4 t) (iblk m c 5 t) (iblk m c 6 t) r k
      = (∑ x : Fin 256, featN m c b r' k (512 * (t.val % 11) + x.val)) + ∑ x : Fin 256, featN m c b r' k (512 * (t.val % 11) + 256 + x.val) := by
  have hm := Nat.mod_lt t.val (show 0 < 11 by decide)
  unfold part
  congr 1
  · refine Finset.sum_congr rfl fun x _ => ?_
    rw [featN, dif_pos (by omega), feat]
    congr 1
    · unfold gated
      simp only [hh]
      have h4 : ∀ d : Fin 2048, _ := fun d => blk4 m c t d ⟨x.val, by omega⟩ ⟨512 * (t.val % 11) + x.val, by omega⟩ rfl
      have h5 : ∀ d : Fin 2048, _ := fun d => blk5 m c t d ⟨x.val, by omega⟩ ⟨5632 + (512 * (t.val % 11) + x.val), by omega⟩ (by simp only []; omega)
      simp only [h4, h5]
    · exact blk6 m c t _ k _ rfl
  · refine Finset.sum_congr rfl fun x _ => ?_
    rw [featN, dif_pos (by omega), feat]
    congr 1
    · unfold gated
      simp only [hh]
      have h4 : ∀ d : Fin 2048, _ := fun d => blk4 m c t d ⟨256 + x.val, by omega⟩ ⟨512 * (t.val % 11) + 256 + x.val, by omega⟩ (by simp only []; omega)
      have h5 : ∀ d : Fin 2048, _ := fun d => blk5 m c t d ⟨256 + x.val, by omega⟩ ⟨5632 + (512 * (t.val % 11) + 256 + x.val), by omega⟩ (by simp only []; omega)
      simp only [h4, h5]
    · exact blk6 m c t _ k _ (by simp only []; omega)

/-- One more chunk of 512 terms of a sum, in its two halves. -/
theorem sum_chunk (f : ℕ → EReal) (s : ℕ) :
    (∑ l ∈ Finset.range (512 * s), f l) + ((∑ x : Fin 256, f (512 * s + x.val)) + ∑ x : Fin 256, f (512 * s + 256 + x.val))
      = ∑ l ∈ Finset.range (512 * (s + 1)), f l := by
  rw [show 512 * (s + 1) = 512 * s + 256 + 256 by ring, Finset.sum_range_add, Finset.sum_range_add, add_assoc,
    ← Finset.sum_range (fun x => f (512 * s + x)), ← Finset.sum_range (fun x => f (512 * s + 256 + x))]

theorem hid_eq (c : Dev nD) (t : Fin cfg0.N) (r : Fin 1024) (d : Fin 2048) (b : Fin 16) (r' : Fin 2048) (hb : b.val = t.val / 22) (hr : r'.val = t.val / 11 % 2 * 1024 + r.val) :
    hid (iblk m c 0 t) (iblk m c 1 t) (iblk m c 2 t) (ix2 r d) = hidRow m c b r' d := by
  have h0 : ∀ j : Fin 2048, _ := fun j => blk0 m c t r j b r' hb hr
  have h2 := blk2 m c t d
  have h3 := blk1 m c t 3 d b hb
  have h4 := blk1 m c t 4 d b hb
  unfold hid hidRow
  simp only [h0, h2, h3, h4, ix2]

/-- Before a run's last point the scratch holds the run's normalised rows and the output block the sum over the features so far. -/
theorem run_inv (c : Dev nD) (n : ℕ) : ∀ (hn : n < cfg0.N), n % 11 ≤ 9 →
    ∀ (r : Fin 1024) (b : Fin 16) (r' : Fin 2048), b.val = n / 22 → r'.val = n / 11 % 2 * 1024 + r.val →
      (∀ d, (outsAt0 m c n hn).2 (ix2 r d) = hidRow m c b r' d)
      ∧ ∀ k, (outsAt0 m c n hn).1 (ix3 0 r k) = ∑ l ∈ Finset.range (512 * (n % 11 + 1)), featN m c b r' k l := by
  induction n with
  | zero =>
    intro hn _ r b r' hb hr
    have hh : ∀ d, (outsAt0 m c 0 hn).2 (ix2 r d) = hidRow m c b r' d := fun d => by
      rw [scratch_A m c ⟨0, hn⟩ rfl (by simp only []; omega) (by simp only []; omega)]
      exact hid_eq m c ⟨0, hn⟩ r d b r' hb hr
    refine ⟨hh, fun k => ?_⟩
    refine (out_A m c ⟨0, hn⟩ rfl (by simp only []; omega) (by simp only []; omega) (ix3 0 r k)).trans ?_
    refine (part_eq m c ⟨0, hn⟩ _ r k b r' (fun d => hid_eq m c ⟨0, hn⟩ r d b r' hb hr)).trans ?_
    rw [← sum_chunk]; simp
  | succ n ih =>
    intro hn h9 r b r' hb hr
    by_cases h0 : (n + 1) % 11 = 0
    · have hh : ∀ d, (outsAt0 m c (n + 1) hn).2 (ix2 r d) = hidRow m c b r' d := fun d => by
        rw [scratch_A m c ⟨n + 1, hn⟩ h0 (by simp only []; omega) (by simp only []; omega)]
        exact hid_eq m c ⟨n + 1, hn⟩ r d b r' hb hr
      refine ⟨hh, fun k => ?_⟩
      refine (out_A m c ⟨n + 1, hn⟩ h0 (by simp only []; omega) (by simp only []; omega) (ix3 0 r k)).trans ?_
      refine (part_eq m c ⟨n + 1, hn⟩ _ r k b r' (fun d => hid_eq m c ⟨n + 1, hn⟩ r d b r' hb hr)).trans ?_
      rw [← sum_chunk]; simp [h0]
    · obtain ⟨i1, i2⟩ := ih (Nat.lt_of_succ_lt hn) (by omega) r b r' (by omega) (by omega)
      refine ⟨fun d => ?_, fun k => ?_⟩
      · rw [scratch_B m c ⟨n + 1, hn⟩ h0 (by simp only []; omega) (by simp only []; omega)]
        exact i1 d
      · refine (out_B m c ⟨n + 1, hn⟩ h0 (by simp only []; omega) (by simp only []; omega) (ix3 0 r k)).trans ?_
        rw [← sum_chunk]
        refine congrArg₂ (· + ·) ((i2 k).trans ?_) (part_eq m c ⟨n + 1, hn⟩ _ r k b r' i1)
        rw [show n % 11 + 1 = (n + 1) % 11 by omega]

/-- The token's whole feed-forward product. -/
def ffnRow (c : Dev nD) (b : Fin 16) (r : Fin 2048) : Fin 2048 → EReal := fun k => ∑ l : Fin 5632, feat m c b r k l

/-- The finished tokens: the input plus the gate times the normalised product. -/
def result (c : Dev nD) : FVec Ideal S16x2048x2048 .f32 := fun i =>
  aX m c i + rowNorm (ffnRow m c (i 0) (i 1)) (i 2) * (aMod m c (ix3 (i 0) 5 (i 2)) * aPost m c (ix1 (i 2)))

theorem row_last (c : Dev nD) (t : Fin cfg0.N) (h2 : t.val % 11 = 10) (r : Fin 1024) (k : Fin 2048) (b : Fin 16) (r' : Fin 2048) (hb : b.val = t.val / 22) (hr : r'.val = t.val / 11 % 2 * 1024 + r.val) :
    (outsAt0 m c (t.val - 1) (Nat.lt_of_le_of_lt (Nat.sub_le _ _) t.isLt)).1 (ix3 0 r k)
        + part (outsAt0 m c (t.val - 1) (Nat.lt_of_le_of_lt (Nat.sub_le _ _) t.isLt)).2 (iblk m c 4 t) (iblk m c 5 t) (iblk m c 6 t) r k = ffnRow m c b r' k := by
  obtain ⟨i1, i2⟩ := run_inv m c (t.val - 1) (Nat.lt_of_le_of_lt (Nat.sub_le _ _) t.isLt) (by omega) r b r' (by omega) (by omega)
  rw [i2, part_eq m c t _ r k b r' i1, show (t.val - 1) % 11 + 1 = t.val % 11 by omega, sum_chunk, h2, Finset.sum_range]
  exact Finset.sum_congr rfl fun l _ => by rw [featN, dif_pos l.isLt]

theorem arr (c : Dev nD) : (dats m 0 c).arrAt 7 cfg0.N = result m c := by
  refine (dats m 0 c).arrAt_eq_of_covers 7 _ (by decide +kernel) fun t hf y => ?_
  have h2 : t.val % 11 = 10 := (flush0_7 t).mp hf
  blk_simp
  rw [after0_7, out_C m c t (by omega) (by omega) h2 y]
  idx_vars y
  obtain rfl : y0 = 0 := Fin.eq_zero y0
  have hi := idx t
  have he : ((cfg0.win 7).blk t).view.emb (ix3 0 y1 y2 : S1x1024x2048.Idx) = (ix3 ⟨t.val / 22, hi.2.2.2.2.2.2.2.2⟩ ⟨t.val / 11 % 2 * 1024 + y1.val, by omega⟩ y2 : S16x2048x2048.Idx) := by
    blk_ext [idx t]
  refine Eq.trans ?_ (congrArg (result m c) he).symm
  have h0 := blk0 m c t y1 y2 ⟨t.val / 22, hi.2.2.2.2.2.2.2.2⟩ ⟨t.val / 11 % 2 * 1024 + y1.val, by omega⟩ rfl rfl
  have h1 := blk1 m c t 5 y2 ⟨t.val / 22, hi.2.2.2.2.2.2.2.2⟩ rfl
  have h3 := blk3 m c t y2
  have hz := funext fun k => row_last m c t h2 y1 k ⟨t.val / 22, hi.2.2.2.2.2.2.2.2⟩ ⟨t.val / 11 % 2 * 1024 + y1.val, by omega⟩ rfl rfl
  exact congrArg₂ (· + ·) h0 (congrArg₂ (· * ·) (congrArg (fun z => rowNorm z y2) hz) (congrArg₂ (· * ·) h1 h3))

end Cert.FfnIdeal.Math
end
-- ==== Proof.FfnEq.lean ====
/- The reference feed-forward block, read at an index, is the kernel's result: the same row norms, the same gated features and the
   same sums, with the factors of two products in another order. -/
module

public import proofs.«01_k».proof.Proof.FfnRun
public import proofs.«01_k».proof.Proof.Gen.FfnRefIdeal.Run

@[expose] public section

set_option maxRecDepth 16384

noncomputable section

namespace Cert.FfnIdeal.Math

open Cert.Math Idealize.ShloMosaic Idealize.ShloMosaic.TcCoe Idealize.SL.Sem

theorem ref_eq (m : (ℓ : Loc FfnIdeal.nD FfnIdeal.τ FfnIdeal.sig) → Buf (Elt Ideal) ℓ) (m' : (ℓ : Loc FfnRefIdeal.nD FfnRefIdeal.τ FfnRefIdeal.sig) → Buf (Elt Ideal) ℓ)
    (c : Dev FfnIdeal.nD)
    (a0 : m' (c.tc.loc FfnRefIdeal.main_arg0) = aX m c) (a1 : m' (c.tc.loc FfnRefIdeal.main_arg1) = aMod m c) (a2 : m' (c.tc.loc FfnRefIdeal.main_arg2) = aPre m c)
    (a3 : m' (c.tc.loc FfnRefIdeal.main_arg3) = aPost m c) (a4 : m' (c.tc.loc FfnRefIdeal.main_arg4) = aUp m c) (a5 : m' (c.tc.loc FfnRefIdeal.main_arg5) = aDown m c) :
    Cert.FfnRefIdeal.Value.res_main_v43 m' c = result m c := by
  funext i
  obtain ⟨b, r, k, rfl⟩ : ∃ b r k, i = ix3 b r k := by idx_vars i; exact ⟨i0, i1, i2, rfl⟩
  have hh : ∀ x, aX m c (ix3 b r x) * Ideal.rsqrt (Ideal.div (∑ x, aX m c (ix3 b r x) * aX m c (ix3 b r x)) (Ideal.ofBits FTy.f32 1157627904#32) + Ideal.ofBits FTy.f32 897988541#32)
      * aPre m c (ix1 x) * (1 + aMod m c (ix3 b 4 x)) + aMod m c (ix3 b 3 x) = hidRow m c b r x := fun x => by
    rw [hidRow, rowNorm, mul_assoc (_ * Ideal.rsqrt _)]
  pointwise [Cert.FfnRefIdeal.Value.res_main_v43]
  simp only [a0, a1, a2, a3, a4, a5]
  simp only [hh]
  exact congrArg₂ (· + ·) rfl (mul_left_comm _ _ _)

end Cert.FfnIdeal.Math
end
-- ==== Proof.QkvBlocks.lean ====
/- What one grid point of the projection kernel leaves, at an index, in terms of the blocks it was given: the product of the
   normalised rows with the weights, the rotated queries and keys, and the transposed values. -/
module

public import proofs.«01_k».proof.Proof.Gen.QkvIdeal.Frame
public import Idealize.ShloMosaic.Lib.Pipeline.ValueKit
public import proofs.«01_k».proof.Proof.FfnScalar

@[expose] public section

set_option maxRecDepth 16384

noncomputable section

namespace Cert.QkvIdeal.Math

open Cert.QkvIdeal Cert.QkvIdeal.Gen Cert.Math Idealize.ShloMosaic Idealize.ShloMosaic.TcCoe Idealize.SL.Sem
open Idealize.ShloMosaic.Pipeline (Dat)

/-- The normalised and modulated rows of a block of tokens. -/
def hid (x0 : FVec Ideal S1x512x2048 .f32) (x1 : FVec Ideal S1x6x2048 .f32) (x2 : FVec Ideal S1x2048 .f32) (r : Fin 512) (k : Fin 2048) : EReal :=
  rowNorm (fun j => x0 (ix3 0 r j)) k * (x2 (ix2 0 k) * (1 + x1 (ix3 0 1 k))) + x1 (ix3 0 0 k)

/-- The product of the block's rows with the weights. -/
def proj (x0 : FVec Ideal S1x512x2048 .f32) (x1 : FVec Ideal S1x6x2048 .f32) (x2 : FVec Ideal S1x2048 .f32) (x3 : FVec Ideal S2048x2816 .bf16) : FVec Ideal S512x2816 .f32 :=
  fun y => ∑ k : Fin 2048, hid x0 x1 x2 (y 0) k * x3 (ix2 k (y 1))

theorem proj_eq (x0 : FVec Ideal S1x512x2048 .f32) (x1 : FVec Ideal S1x6x2048 .f32) (x2 : FVec Ideal S1x2048 .f32) (x3 : FVec Ideal S2048x2816 .bf16) :
    k0_pay4 (F := Ideal) x0 x2 (View.ld x1 r0_2) (View.ld x1 r0_3) x3 = proj x0 x1 x2 x3 := by
  funext y
  idx_vars y
  unfold_payloads
  pointwise [proj, hid, rowNorm]
  try rfl

/-- One chunk of 128 lanes rotated: two heads side by side, each lane multiplied with its cosine, and its partner of the same
    half with its sine. -/
def chunk (U C S : FVec Ideal S512x128 .f32) : FVec Ideal S512x128 .f32 :=
  addf (mulf U C) (mulf (select (k0_pay9 (iota .tc S512x128 32 [1] iota_S512x128_d1_w32))
    (dynamicRotate 1 112#32 none U rotates_S512x128_d1) (dynamicRotate 1 16#32 none U rotates_S512x128_d1)) S)

/-- The lanes whose partner lies to the right. -/
theorem mask_apply (r : Fin 512) (l : Fin 128) :
    k0_pay9 (iota .tc S512x128 32 [1] iota_S512x128_d1_w32) (ix2 r l) = if l.val % 32 < 16 then 1#1 else 0#1 := by
  unfold k0_pay9
  pointwise
  clear r
  revert l
  decide +kernel

theorem chunk_apply (U C S : FVec Ideal S512x128 .f32) (r : Fin 512) (l : Fin 128) (p : Fin 128)
    (hp : p.val = if l.val % 32 < 16 then l.val + 16 else l.val - 16) :
    chunk U C S (ix2 r l) = U (ix2 r l) * C (ix2 r l) + U (ix2 r p) * S (ix2 r l) := by
  unfold chunk
  have hm := mask_apply r l
  generalize k0_pay9 (iota .tc S512x128 32 [1] iota_S512x128_d1_w32) = M at hm ⊢
  pointwise
  rw [hm]
  by_cases h : l.val % 32 < 16
  · rw [if_pos h] at hp ⊢
    rw [show p = ⟨(l.val + 128 - 112) % 128, Nat.mod_lt _ (by decide)⟩ from Fin.ext (by show p.val = (l.val + 128 - 112) % 128; omega)]
    rfl
  · rw [if_neg h] at hp ⊢
    rw [show p = ⟨(l.val + 128 - 16) % 128, Nat.mod_lt _ (by decide)⟩ from Fin.ext (by show p.val = (l.val + 128 - 16) % 128; omega)]
    rfl

theorem cutsQ : ∀ n : Fin 16, Shape.Slices S512x2048 ![0, 128 * n.val] S512x128 := by decide +kernel
theorem cutsK : ∀ n : Fin 4, Shape.Slices S512x512 ![0, 128 * n.val] S512x128 := by decide +kernel

/-- The rotated queries, chunk by chunk. -/
def queries (Z : FVec Ideal S512x2048 .f32) (C S : FVec Ideal S512x128 .f32) : FVec Ideal S512x2048 .f32 :=
  concatenate S512x2048 1 (List.ofFn fun n : Fin 16 => ⟨S512x128, chunk (extractStridedSlice S512x128 ![0, 128 * n.val] Z (cutsQ n)) C S⟩)
    concatenates_S512x128_S512x128_S512x128_S512x128_S512x128_S512x128_S512x128_S512x128_S512x128_S512x128_S512x128_S512x128_S512x128_S512x128_S512x128_S512x128_S512x2048_d1

/-- The rotated keys, chunk by chunk. -/
def keys (Z : FVec Ideal S512x512 .f32) (C S : FVec Ideal S512x128 .f32) : FVec Ideal S512x512 .f32 :=
  concatenate S512x512 1 (List.ofFn fun n : Fin 4 => ⟨S512x128, chunk (extractStridedSlice S512x128 ![0, 128 * n.val] Z (cutsK n)) C S⟩)
    concatenates_S512x128_S512x128_S512x128_S512x128_S512x512_d1

theorem queries_apply (Z : FVec Ideal S512x2048 .f32) (C S : FVec Ideal S512x128 .f32) (r : Fin 512) (e p : Fin 2048) (l : Fin 128) (hl : l.val = e.val % 128)
    (hp : p.val = if e.val % 32 < 16 then e.val + 16 else e.val - 16) :
    queries Z C S (ix2 r e) = Z (ix2 r e) * C (ix2 r l) + Z (ix2 r p) * S (ix2 r l) := by
  have hq : (if l.val % 32 < 16 then l.val + 16 else l.val - 16) < 128 := by split <;> omega
  unfold queries
  refine (concatenate_ofFn_apply (t := S512x2048) (s₁ := S512x128) (N := 16) 1 _ _ rfl 128 rfl (ix2 r e) ⟨e.val / 128, by omega⟩ rfl (ix2 r l) hl (fun b hb => ?_)).trans ?_
  · fin_cases b
    · rfl
    · exact absurd rfl hb
  refine (chunk_apply _ C S r l ⟨_, hq⟩ rfl).trans ?_
  refine congrArg₂ (· + ·) (congrArg (· * _) ?_) (congrArg (· * _) ?_)
  · refine extractStridedSlice_apply _ _ _ _ (ix2 r e) fun a => ?_
    fin_cases a
    · show r.val = 0 + r.val; omega
    · show e.val = 128 * (e.val / 128) + l.val; omega
  · refine extractStridedSlice_apply _ _ _ _ (ix2 r p) fun a => ?_
    fin_cases a
    · show r.val = 0 + r.val; omega
    · show p.val = 128 * (e.val / 128) + (if l.val % 32 < 16 then l.val + 16 else l.val - 16)
      rw [hp]
      split <;> split <;> omega

theorem keys_apply (Z : FVec Ideal S512x512 .f32) (C S : FVec Ideal S512x128 .f32) (r : Fin 512) (e p : Fin 512) (l : Fin 128) (hl : l.val = e.val % 128)
    (hp : p.val = if e.val % 32 < 16 then e.val + 16 else e.val - 16) :
    keys Z C S (ix2 r e) = Z (ix2 r e) * C (ix2 r l) + Z (ix2 r p) * S (ix2 r l) := by
  have hq : (if l.val % 32 < 16 then l.val + 16 else l.val - 16) < 128 := by split <;> omega
  unfold keys
  refine (concatenate_ofFn_apply (t := S512x512) (s₁ := S512x128) (N := 4) 1 _ _ rfl 128 rfl (ix2 r e) ⟨e.val / 128, by omega⟩ rfl (ix2 r l) hl (fun b hb => ?_)).trans ?_
  · fin_cases b
    · rfl
    · exact absurd rfl hb
  refine (chunk_apply _ C S r l ⟨_, hq⟩ rfl).trans ?_
  refine congrArg₂ (· + ·) (congrArg (· * _) ?_) (congrArg (· * _) ?_)
  · refine extractStridedSlice_apply _ _ _ _ (ix2 r e) fun a => ?_
    fin_cases a
    · show r.val = 0 + r.val; omega
    · show e.val = 128 * (e.val / 128) + l.val; omega
  · refine extractStridedSlice_apply _ _ _ _ (ix2 r p) fun a => ?_
    fin_cases a
    · show r.val = 0 + r.val; omega
    · show p.val = 128 * (e.val / 128) + (if l.val % 32 < 16 then l.val + 16 else l.val - 16)
      rw [hp]
      split <;> split <;> omega

section Outs
variable (x0 : FVec Ideal S1x512x2048 .f32) (x1 : FVec Ideal S1x6x2048 .f32) (x2 : FVec Ideal S1x2048 .f32) (x3 : FVec Ideal S2048x2816 .bf16) (x4 x5 : FVec Ideal S512x128 .f32)

/-- The values: the last columns of the product, transposed. -/
theorem vals (z : Fin 1) (e : Fin 256) (r : Fin 512) (j : Fin 2816) (hj : j.val = 2560 + e.val) :
    out0_8 (F := Ideal) x0 x1 x2 x3 x4 x5 (ix3 z e r) = proj x0 x1 x2 x3 (ix2 r j) := by
  unfold out0_8
  frame_out
  unfold k0_pay3 k0_pay7
  simp only [proj_eq]
  generalize proj x0 x1 x2 x3 = Z
  pointwise
  exact congrArg (fun j => Z (ix2 r j)) (Fin.ext hj.symm)

/-- The queries: the first columns of the product, rotated and scaled. -/
theorem qrys (z : Fin 1) (r : Fin 512) (e p : Fin 2048) (j j' : Fin 2816) (l : Fin 128) (hl : l.val = e.val % 128)
    (hp : p.val = if e.val % 32 < 16 then e.val + 16 else e.val - 16) (hj : j.val = e.val) (hj' : j'.val = p.val) :
    out0_6 (F := Ideal) x0 x1 x2 x3 x4 x5 (ix3 z r e)
      = (proj x0 x1 x2 x3 (ix2 r j) * x4 (ix2 r l) + proj x0 x1 x2 x3 (ix2 r j') * x5 (ix2 r l)) * ((Real.log 256)⁻¹ : ℝ) := by
  unfold_out out0_6
  frame_out
  unfold k0_pay5
  simp only [proj_eq]
  generalize proj x0 x1 x2 x3 = Z
  refine (show _ = k0_pay1 (queries (extractStridedSlice S512x2048 ![0, 0] Z slices_S512x2816_o0_0_S512x2048) x4 (k0_pay8 x5)) (ix3 z r e) from rfl).trans ?_
  have hs : ∀ (q : Fin 2048) (i : Fin 2816), i.val = q.val → extractStridedSlice S512x2048 ![0, 0] Z slices_S512x2816_o0_0_S512x2048 (ix2 r q) = Z (ix2 r i) := fun q i hi => by
    pointwise
    exact congrArg (fun j => Z (ix2 r j)) (Fin.ext hi.symm)
  have h8 : k0_pay8 (F := Ideal) x5 = x5 := shapeCast_self _ _
  have hq := queries_apply (extractStridedSlice S512x2048 ![0, 0] Z slices_S512x2816_o0_0_S512x2048) x4 (k0_pay8 x5) r e p l hl hp
  generalize queries _ _ _ = Q at hq ⊢
  pointwise [k0_pay1]
  rw [hq, hs e j hj, hs p j' hj', h8]
  simp [Named.named, κ]

/-- The keys: the middle columns of the product, rotated. -/
theorem kys (z : Fin 1) (r : Fin 512) (e p : Fin 512) (j j' : Fin 2816) (l : Fin 128) (hl : l.val = e.val % 128)
    (hp : p.val = if e.val % 32 < 16 then e.val + 16 else e.val - 16) (hj : j.val = 2048 + e.val) (hj' : j'.val = 2048 + p.val) :
    out0_7 (F := Ideal) x0 x1 x2 x3 x4 x5 (ix3 z r e)
      = proj x0 x1 x2 x3 (ix2 r j) * x4 (ix2 r l) + proj x0 x1 x2 x3 (ix2 r j') * x5 (ix2 r l) := by
  unfold_out out0_7
  frame_out
  unfold k0_pay6
  simp only [proj_eq]
  generalize proj x0 x1 x2 x3 = Z
  refine (show _ = shapeCast S1x512x512 (truncf .bf16 (keys (extractStridedSlice S512x512 ![0, 2048] Z slices_S512x2816_o0_2048_S512x512) x4 (k0_pay8 x5)) bitsLt_bf16_f32) shapeCasts_S512x512_S1x512x512 (ix3 z r e) from rfl).trans ?_
  have hs : ∀ (q : Fin 512) (i : Fin 2816), i.val = 2048 + q.val → extractStridedSlice S512x512 ![0, 2048] Z slices_S512x2816_o0_2048_S512x512 (ix2 r q) = Z (ix2 r i) := fun q i hi => by
    pointwise
    exact congrArg (fun j => Z (ix2 r j)) (Fin.ext hi.symm)
  have h8 : k0_pay8 (F := Ideal) x5 = x5 := shapeCast_self _ _
  have hq := keys_apply (extractStridedSlice S512x512 ![0, 2048] Z slices_S512x2816_o0_2048_S512x512) x4 (k0_pay8 x5) r e p l hl hp
  generalize keys _ _ _ = Q at hq ⊢
  pointwise
  rw [hq, hs e j hj, hs p j' hj', h8]

end Outs

end Cert.QkvIdeal.Math
end
-- ==== Proof.QkvWeights.lean ====
/- The weights the projection kernel is given: the columns of the queries, the columns of the keys twice, head by head, and the
   columns of the values. -/
module

public import proofs.«01_k».proof.Proof.QkvBlocks
public import Idealize.ShloMosaic.Lib.Tactic.ValueTie

@[expose] public section

set_option maxRecDepth 16384

noncomputable section

namespace Cert.QkvIdeal.Math

open Cert.QkvIdeal Cert.QkvIdeal.Gen Cert.Math Idealize.ShloMosaic Idealize.ShloMosaic.TcCoe Idealize.SL.Sem
open Idealize.ShloMosaic.Pipeline (Dat)

variable (m : (ℓ : Loc nD τ sig) → Buf (Elt Ideal) ℓ)

abbrev aW (c : Dev nD) : FVec Ideal S2048x2560 .f32 := m ((c : Thread nD τ).loc main_arg3)

/-- The kernel's weights: the queries' columns, the keys' columns twice, head by head, and the values' columns. -/
def wIn (W : FVec Ideal S2048x2560 .bf16) : FVec Ideal S2048x2816 .bf16 :=
  concatenate S2048x2816 1 [⟨S2048x2048, extractStridedSlice S2048x2048 ![0, 0] W slices_S2048x2560_S2048x2048_0_0⟩,
    ⟨S2048x512, shapeCast S2048x512 (broadcastInDim S2048x4x2x64 ![0, 1, 2, 3] bcast_S2048x4x1x64_S2048x4x2x64_0_1_2_3
      (shapeCast S2048x4x1x64 (extractStridedSlice S2048x256 ![0, 2048] W slices_S2048x2560_S2048x256_0_2048) shapeCasts_S2048x256_S2048x4x1x64)) shapeCasts_S2048x4x2x64_S2048x512⟩,
    ⟨S2048x256, extractStridedSlice S2048x256 ![0, 2304] W slices_S2048x2560_S2048x256_0_2304⟩] concatenates_S2048x2048_S2048x512_S2048x256_S2048x2816_d1

/-- A line of operations run in two parts. -/
theorem after_parts (a b : List (HloOp τ sig (Elt Ideal))) (W : Valuation τ sig (Elt Ideal)) :
    StableHlo.after (a ++ b) W = StableHlo.after b (StableHlo.after a W) := by
  induction a generalizing W with
  | nil => rfl
  | cons o a ih => exact ih _

theorem wIn_eq (c : Dev nD) : (V m c main_v7 : FVec Ideal S2048x2816 .bf16) = wIn (truncf .bf16 (aW m c) bitsLt_bf16_f32) := by
  let F7 : Valuation τ sig (Elt Ideal) := StableHlo.after (List.take 7 hostOps0) (fun b => m (c, b))
  have h1 : F7 (Proc.devRef .tc main_v1) = extractStridedSlice S2048x2048 ![0, 0] (truncf .bf16 (aW m c) bitsLt_bf16_f32) slices_S2048x2560_S2048x2048_0_0 := by
    simp only [F7, hostOps0, List.take, StableHlo.after_cons, StableHlo.after_nil]
    after_results_simp
    try rfl
  have h5 : F7 (Proc.devRef .tc main_v5) = shapeCast S2048x512 (broadcastInDim S2048x4x2x64 ![0, 1, 2, 3] bcast_S2048x4x1x64_S2048x4x2x64_0_1_2_3
      (shapeCast S2048x4x1x64 (extractStridedSlice S2048x256 ![0, 2048] (truncf .bf16 (aW m c) bitsLt_bf16_f32) slices_S2048x2560_S2048x256_0_2048) shapeCasts_S2048x256_S2048x4x1x64)) shapeCasts_S2048x4x2x64_S2048x512 := by
    simp only [F7, hostOps0, List.take, StableHlo.after_cons, StableHlo.after_nil]
    after_results_simp
    try rfl
  have h6 : F7 (Proc.devRef .tc main_v6) = extractStridedSlice S2048x256 ![0, 2304] (truncf .bf16 (aW m c) bitsLt_bf16_f32) slices_S2048x2560_S2048x256_0_2304 := by
    simp only [F7, hostOps0, List.take, StableHlo.after_cons, StableHlo.after_nil]
    after_results_simp
    try rfl
  have e : V m c main_v7 = StableHlo.after (List.drop 8 hostOps0) (StableHlo.after (List.take 8 hostOps0) (fun b => m (c, b))) (Proc.devRef .tc main_v7) :=
    congrFun ((congrArg (fun l => StableHlo.after l (fun b => m (c, b))) (List.take_append_drop 8 hostOps0).symm).trans (after_parts _ _ _)) _
  refine e.trans ((StableHlo.after_of_forall_not_mem (b := Proc.devRef .tc main_v7) _ _ (List.forall_iff_forall_mem.mp ?_)).trans ?_)
  · simp only [hostOps0, List.drop, List.Forall, StableHlo.nullary_writes, StableHlo.unary_writes, StableHlo.binary_writes, StableHlo.reshape_writes, Finset.mem_singleton]
    repeat' apply And.intro
    all_goals exact StableHlo.devRef_ne_of_ne (by decide)
  · simp only [F7, hostOps0, List.take, StableHlo.after_cons, StableHlo.after_nil] at h1 h5 h6
    simp only [hostOps0, List.take, StableHlo.after_cons, StableHlo.after_nil]
    refine (StableHlo.nary_result' _ _ _ _ _).trans ?_
    unfold wIn
    rw [← h1, ← h5, ← h6]
    rfl

theorem wIn_q (W : FVec Ideal S2048x2560 .bf16) (d : Fin 2048) (j : Fin 2816) (e : Fin 2560) (h : j.val < 2048) (he : e.val = j.val) : wIn W (ix2 d j) = W (ix2 d e) := by
  unfold wIn
  generalize shapeCast S2048x512 _ _ = K
  pointwise
  rw [dif_pos h]
  exact congrArg (fun x => W (ix2 d x)) (Fin.ext he.symm)

theorem wIn_k (W : FVec Ideal S2048x2560 .bf16) (d : Fin 2048) (j : Fin 2816) (e : Fin 2560) (h : 2048 ≤ j.val) (h' : j.val < 2560) (he : e.val = 2048 + (j.val - 2048) / 128 * 64 + j.val % 64) :
    wIn W (ix2 d j) = W (ix2 d e) := by
  unfold wIn
  pointwise
  rw [dif_neg (by omega), dif_pos (by omega)]
  exact congrArg (fun x => W (ix2 d x)) (Fin.ext (show 2048 + ((j.val - 2048) / 128 * 64 + (j.val - 2048) % 64) = e.val by omega))

theorem wIn_v (W : FVec Ideal S2048x2560 .bf16) (d : Fin 2048) (j : Fin 2816) (e : Fin 2560) (h : 2560 ≤ j.val) (he : e.val = j.val - 256) :
    wIn W (ix2 d j) = W (ix2 d e) := by
  unfold wIn
  generalize shapeCast S2048x512 _ _ = K
  pointwise
  rw [dif_neg (by omega), dif_neg (by omega)]
  exact congrArg (fun x => W (ix2 d x)) (Fin.ext (show 2304 + (j.val - 2048 - 512) = e.val by omega))

end Cert.QkvIdeal.Math
end
-- ==== Proof.QkvRun.lean ====
/- The projection kernel's three results in terms of the argument arrays: every grid point leaves one tile of 512 tokens of the
   queries, the keys and the values. -/
module

public import proofs.«01_k».proof.Proof.QkvWeights
public import Idealize.ShloMosaic.Lib.Tactic.ValueTie

@[expose] public section

set_option maxRecDepth 16384

noncomputable section

namespace Cert.QkvIdeal.Math

open Cert.QkvIdeal Cert.QkvIdeal.Gen Cert.Math Idealize.ShloMosaic Idealize.ShloMosaic.TcCoe Idealize.SL.Sem
open Idealize.ShloMosaic.Pipeline (Dat)

variable (m : (ℓ : Loc nD τ sig) → Buf (Elt Ideal) ℓ)

/-- The argument arrays, typed by their shapes. -/
abbrev aX (c : Dev nD) : FVec Ideal S16x2048x2048 .f32 := m ((c : Thread nD τ).loc main_arg0)
abbrev aMod (c : Dev nD) : FVec Ideal S16x6x2048 .f32 := m ((c : Thread nD τ).loc main_arg1)
abbrev aPre (c : Dev nD) : FVec Ideal S2048 .f32 := m ((c : Thread nD τ).loc main_arg2)
abbrev aCos (c : Dev nD) : FVec Ideal S2048x64 .f32 := m ((c : Thread nD τ).loc main_arg4)
abbrev aSin (c : Dev nD) : FVec Ideal S2048x64 .f32 := m ((c : Thread nD τ).loc main_arg5)

/-- The block index of every window at every grid point: batch `t / 4`, row tile `t % 4`. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![t.val % 4, 0] ∧ win0_5.index t = ![t.val % 4, 0]
    ∧ win0_6.index t = ![t.val / 4, t.val % 4, 0] ∧ win0_7.index t = ![t.val / 4, t.val % 4, 0] ∧ win0_8.index t = ![t.val / 4, 0, t.val % 4] ∧ t.val / 4 < 16 :=
  (by decide +kernel : ∀ t : Fin grid0.N, _)

theorem blk0 (c : Dev nD) (t : Fin cfg0.N) (r : Fin 512) (k : Fin 2048) (b : Fin 16) (r' : Fin 2048) (hb : b.val = t.val / 4) (hr : r'.val = t.val % 4 * 512 + r.val) :
    (iblk m c 0 t : FVec Ideal S1x512x2048 .f32) (ix3 0 r k) = aX m c (ix3 b r' k) := by
  blk_ext [iblk, V, idx t]
theorem blk1 (c : Dev nD) (t : Fin cfg0.N) (s : Fin 6) (k : Fin 2048) (b : Fin 16) (hb : b.val = t.val / 4) :
    (iblk m c 1 t : FVec Ideal S1x6x2048 .f32) (ix3 0 s k) = aMod m c (ix3 b s k) := by
  blk_ext [iblk, V, idx t]
theorem blk2 (c : Dev nD) (t : Fin cfg0.N) (k : Fin 2048) :
    (iblk m c 2 t : FVec Ideal S1x2048 .f32) (ix2 0 k) = aPre m c (ix1 k) := by
  blk_simp [iblk, V, idx t]
  entry_read
  pointwise
  blk_ext [idx t]

theorem tabC (c : Dev nD) (r : Fin 2048) (l : Fin 128) (d : Fin 64) (hd : d.val = l.val % 64) :
    (V m c main_v17 : FVec Ideal S2048x128 .f32) (ix2 r l) = aCos m c (ix2 r d) := by
  entry_read
  pointwise
  exact congrArg (fun x => aCos m c (ix2 r x)) (Fin.ext hd.symm)

theorem tabS (c : Dev nD) (r : Fin 2048) (l : Fin 128) (d : Fin 64) (hd : d.val = l.val % 64) :
    (V m c main_v23 : FVec Ideal S2048x128 .f32) (ix2 r l) = aSin m c (ix2 r d) * (if d.val % 32 < 16 then -1 else 1) := by
  entry_read
  pointwise
  rw [show (⟨l.val % 64, Nat.mod_lt _ (by decide)⟩ : Fin 64) = d from Fin.ext hd.symm]
  rw [← hd]
  rfl

theorem blk4 (c : Dev nD) (t : Fin cfg0.N) (r : Fin 512) (l : Fin 128) (r' : Fin 2048) (d : Fin 64) (hr : r'.val = t.val % 4 * 512 + r.val) (hd : d.val = l.val % 64) :
    (iblk m c 4 t : FVec Ideal S512x128 .f32) (ix2 r l) = aCos m c (ix2 r' d) := by
  refine Eq.trans ?_ (tabC m c r' l d hd)
  blk_ext [iblk, idx t]

theorem blk5 (c : Dev nD) (t : Fin cfg0.N) (r : Fin 512) (l : Fin 128) (r' : Fin 2048) (d : Fin 64) (hr : r'.val = t.val % 4 * 512 + r.val) (hd : d.val = l.val % 64) :
    (iblk m c 5 t : FVec Ideal S512x128 .f32) (ix2 r l) = aSin m c (ix2 r' d) * (if d.val % 32 < 16 then -1 else 1) := by
  refine Eq.trans ?_ (tabS m c r' l d hd)
  blk_ext [iblk, idx t]

theorem blk3 (c : Dev nD) (t : Fin cfg0.N) (d : Fin 2048) (j : Fin 2816) :
    (iblk m c 3 t : FVec Ideal S2048x2816 .bf16) (ix2 d j) = (V m c main_v7 : FVec Ideal S2048x2816 .bf16) (ix2 d j) := by
  blk_ext [iblk, idx t]

/-- The normalised and modulated row of one token. -/
def hidRow (c : Dev nD) (b : Fin 16) (r : Fin 2048) : Fin 2048 → EReal := fun k =>
  rowNorm (fun j => aX m c (ix3 b r j)) k * (aPre m c (ix1 k) * (1 + aMod m c (ix3 b 1 k))) + aMod m c (ix3 b 0 k)

/-- One token's row times the weights. -/
def projRow (c : Dev nD) (b : Fin 16) (r : Fin 2048) : Fin 2560 → EReal := fun e => ∑ k : Fin 2048, hidRow m c b r k * aW m c (ix2 k e)

/-- The column a column is rotated with: sixteen to the right in the first half of each group of 32, sixteen to the left in the other. -/
def partner (e : Fin 2560) : Fin 2560 := ⟨if e.val % 32 < 16 then e.val + 16 else e.val - 16, by split <;> omega⟩

/-- A column of a token's projected row, rotated by the token's angles. -/
def rope (u : Fin 2560 → EReal) (C S : Fin 64 → EReal) (e : Fin 2560) : EReal :=
  u e * C ⟨e.val % 64, Nat.mod_lt _ (by decide)⟩
    + u (partner e) * (S ⟨e.val % 64, Nat.mod_lt _ (by decide)⟩ * (if e.val % 64 % 32 < 16 then -1 else 1))

/-- The rotated column of one token. -/
def ropeRow (c : Dev nD) (b : Fin 16) (r : Fin 2048) (e : Fin 2560) : EReal :=
  rope (projRow m c b r) (fun d => aCos m c (ix2 r d)) (fun d => aSin m c (ix2 r d)) e

/-- The queries, the keys (each head twice) and the values (transposed). -/
def resQ (c : Dev nD) : FVec Ideal S16x2048x2048 .bf16 := fun i => ropeRow m c (i 0) (i 1) ⟨(i 2).val, lt_trans (i 2).isLt (by decide)⟩ * ((Real.log 256)⁻¹ : ℝ)

theorem key_lt (e : Fin 512) : 2048 + e.val / 128 * 64 + e.val % 64 < 2560 := by omega
theorem val_lt (e : Fin 256) : 2304 + e.val < 2560 := by omega

def resK (c : Dev nD) : FVec Ideal S16x2048x512 .bf16 := fun i => ropeRow m c (i 0) (i 1) ⟨2048 + (i 2).val / 128 * 64 + (i 2).val % 64, key_lt (i 2)⟩
def resV (c : Dev nD) : FVec Ideal S16x256x2048 .bf16 := fun i => projRow m c (i 0) (i 2) ⟨2304 + (i 1).val, val_lt (i 1)⟩

theorem proj_row (c : Dev nD) (t : Fin cfg0.N) (r : Fin 512) (j : Fin 2816) (b : Fin 16) (r' : Fin 2048) (e : Fin 2560) (hb : b.val = t.val / 4) (hr : r'.val = t.val % 4 * 512 + r.val)
    (hw : ∀ d, wIn (truncf .bf16 (aW m c) bitsLt_bf16_f32) (ix2 d j) = aW m c (ix2 d e)) :
    proj (iblk m c 0 t) (iblk m c 1 t) (iblk m c 2 t) (iblk m c 3 t) (ix2 r j) = projRow m c b r' e := by
  unfold proj projRow
  refine Finset.sum_congr rfl fun k _ => congrArg₂ (· * ·) ?_ (((blk3 m c t k j).trans (congrFun (wIn_eq m c) _)).trans (hw k))
  have h0 : ∀ j : Fin 2048, _ := fun j => blk0 m c t r j b r' hb hr
  have h2 := blk2 m c t k
  have h3 := blk1 m c t 0 k b hb
  have h4 := blk1 m c t 1 k b hb
  unfold hid hidRow
  simp only [h2, h3, h4, ix2]
  refine congrArg (fun x => x * _ + _) (congrArg (fun X => rowNorm X k) (funext h0))

theorem arrV (c : Dev nD) : (dats m 0 c).arrAt 8 cfg0.N = resV m c := by
  refine (dats m 0 c).arrAt_eq_of_covers 8 _ (by decide +kernel) fun t hf y => ?_
  blk_simp
  rw [after0_8]
  idx_vars y
  have hi := idx t
  obtain rfl : y0 = 0 := Fin.eq_zero y0
  have he : ((cfg0.win 8).blk t).view.emb (ix3 0 y1 y2 : S1x256x512.Idx) = (ix3 ⟨t.val / 4, hi.2.2.2.2.2.2.2.2.2⟩ y1 ⟨t.val % 4 * 512 + y2.val, by omega⟩ : S16x256x2048.Idx) := by
    blk_ext [idx t]
  refine Eq.trans ?_ (congrArg (resV m c) he).symm
  refine (vals _ _ _ _ _ _ 0 y1 y2 ⟨2560 + y1.val, by omega⟩ rfl).trans ?_
  exact proj_row m c t y2 _ _ _ _ rfl rfl fun d => wIn_v _ d _ _ (Nat.le_add_right _ _) (by show 2304 + y1.val = 2560 + y1.val - 256; omega)

theorem arrK (c : Dev nD) : (dats m 0 c).arrAt 7 cfg0.N = resK m c := by
  refine (dats m 0 c).arrAt_eq_of_covers 7 _ (by decide +kernel) fun t hf y => ?_
  blk_simp
  rw [after0_7]
  idx_vars y
  have hi := idx t
  obtain rfl : y0 = 0 := Fin.eq_zero y0
  have he : ((cfg0.win 7).blk t).view.emb (ix3 0 y1 y2 : S1x512x512.Idx) = (ix3 ⟨t.val / 4, hi.2.2.2.2.2.2.2.2.2⟩ ⟨t.val % 4 * 512 + y1.val, by omega⟩ y2 : S16x2048x512.Idx) := by
    blk_ext [idx t]
  refine Eq.trans ?_ (congrArg (resK m c) he).symm
  have hp : (if y2.val % 32 < 16 then y2.val + 16 else y2.val - 16) < 512 := by split <;> omega
  refine (kys _ _ _ _ _ _ 0 y1 y2 ⟨_, hp⟩ ⟨2048 + y2.val, by omega⟩ ⟨2048 + (if y2.val % 32 < 16 then y2.val + 16 else y2.val - 16), by omega⟩
    ⟨y2.val % 128, Nat.mod_lt _ (by decide)⟩ rfl rfl rfl rfl).trans ?_
  refine congrArg₂ (· + ·) (congrArg₂ (· * ·) (proj_row m c t y1 _ _ _ _ rfl rfl fun d => wIn_k _ d _ _ (Nat.le_add_right _ _) (by show 2048 + y2.val < 2560; omega) ?_) (blk4 m c t y1 _ _ _ rfl ?_))
    (congrArg₂ (· * ·) (proj_row m c t y1 _ _ _ _ rfl rfl fun d => wIn_k _ d _ _ (Nat.le_add_right _ _) ?_ ?_) ((blk5 m c t y1 _ _ _ rfl ?_)))
  · show 2048 + y2.val / 128 * 64 + y2.val % 64 = 2048 + (2048 + y2.val - 2048) / 128 * 64 + (2048 + y2.val) % 64
    omega
  · show (2048 + y2.val / 128 * 64 + y2.val % 64) % 64 = y2.val % 128 % 64
    omega
  · show 2048 + (if y2.val % 32 < 16 then y2.val + 16 else y2.val - 16) < 2560
    omega
  · show (if (2048 + y2.val / 128 * 64 + y2.val % 64) % 32 < 16 then (2048 + y2.val / 128 * 64 + y2.val % 64) + 16 else (2048 + y2.val / 128 * 64 + y2.val % 64) - 16)
      = 2048 + (2048 + (if y2.val % 32 < 16 then y2.val + 16 else y2.val - 16) - 2048) / 128 * 64 + (2048 + (if y2.val % 32 < 16 then y2.val + 16 else y2.val - 16)) % 64
    split <;> split <;> omega
  · show (2048 + y2.val / 128 * 64 + y2.val % 64) % 64 = y2.val % 128 % 64
    omega

theorem arrQ (c : Dev nD) : (dats m 0 c).arrAt 6 cfg0.N = resQ m c := by
  refine (dats m 0 c).arrAt_eq_of_covers 6 _ (by decide +kernel) fun t hf y => ?_
  blk_simp
  rw [after0_6]
  idx_vars y
  have hi := idx t
  obtain rfl : y0 = 0 := Fin.eq_zero y0
  have he : ((cfg0.win 6).blk t).view.emb (ix3 0 y1 y2 : S1x512x2048.Idx) = (ix3 ⟨t.val / 4, hi.2.2.2.2.2.2.2.2.2⟩ ⟨t.val % 4 * 512 + y1.val, by omega⟩ y2 : S16x2048x2048.Idx) := by
    blk_ext [idx t]
  refine Eq.trans ?_ (congrArg (resQ m c) he).symm
  have hp : (if y2.val % 32 < 16 then y2.val + 16 else y2.val - 16) < 2048 := by split <;> omega
  refine (qrys _ _ _ _ _ _ 0 y1 y2 ⟨_, hp⟩ ⟨y2.val, by omega⟩ ⟨(if y2.val % 32 < 16 then y2.val + 16 else y2.val - 16), by omega⟩
    ⟨y2.val % 128, Nat.mod_lt _ (by decide)⟩ rfl rfl rfl rfl).trans ?_
  refine congrArg (· * (((Real.log 256)⁻¹ : ℝ) : EReal)) ?_
  refine congrArg₂ (· + ·) (congrArg₂ (· * ·) (proj_row m c t y1 _ _ _ _ rfl rfl fun d => wIn_q _ d _ _ y2.isLt rfl) (blk4 m c t y1 _ _ _ rfl ?_))
    (congrArg₂ (· * ·) (proj_row m c t y1 _ _ _ _ rfl rfl fun d => wIn_q _ d _ _ hp rfl) ((blk5 m c t y1 _ _ _ rfl ?_)))
  · show y2.val % 64 = y2.val % 128 % 64
    omega
  · show y2.val % 64 = y2.val % 128 % 64
    omega

end Cert.QkvIdeal.Math
end
-- ==== Proof.QkvEq.lean ====
/- The reference queries, keys and values, read at an index, are the kernel's results: the same rows times the same columns, the
   rotation by halves written as a signed sum of two columns, and the two scales of the queries as one. -/
module

public import proofs.«01_k».proof.Proof.QkvRun
public import proofs.«01_k».proof.Proof.Gen.QkvRefIdeal.Run

@[expose] public section

set_option maxRecDepth 16384

noncomputable section

namespace Cert.QkvIdeal.Math

open Cert.Math Idealize.ShloMosaic Idealize.ShloMosaic.TcCoe Idealize.SL.Sem

variable (m : (ℓ : Loc QkvIdeal.nD QkvIdeal.τ QkvIdeal.sig) → Buf (Elt Ideal) ℓ) (m' : (ℓ : Loc QkvRefIdeal.nD QkvRefIdeal.τ QkvRefIdeal.sig) → Buf (Elt Ideal) ℓ)
    (c : Dev QkvIdeal.nD)
    (a0 : m' (c.tc.loc QkvRefIdeal.main_arg0) = aX m c) (a1 : m' (c.tc.loc QkvRefIdeal.main_arg1) = aMod m c) (a2 : m' (c.tc.loc QkvRefIdeal.main_arg2) = aPre m c)
    (a3 : m' (c.tc.loc QkvRefIdeal.main_arg3) = aW m c) (a4 : m' (c.tc.loc QkvRefIdeal.main_arg4) = aCos m c) (a5 : m' (c.tc.loc QkvRefIdeal.main_arg5) = aSin m c)

/-- The order in which the reference multiplies a normalised entry. -/
theorem hid_order (b : Fin 16) (r : Fin 2048) (x : Fin 2048) :
    aX m c (ix3 b r x) * Ideal.rsqrt (Ideal.div (∑ x, aX m c (ix3 b r x) * aX m c (ix3 b r x)) (Ideal.ofBits FTy.f32 1157627904#32) + Ideal.ofBits FTy.f32 897988541#32)
      * aPre m c (ix1 x) * (1 + aMod m c (ix3 b 1 x)) + aMod m c (ix3 b 0 x) = hidRow m c b r x := by
  rw [hidRow, rowNorm, mul_assoc (_ * Ideal.rsqrt _)]

/-- A column rotated by halves: the partner's negative in the first sixteen of each 32, the partner in the others. -/
theorem rope_eq (u : Fin 2560 → EReal) (C S : Fin 64 → EReal) (e e' : Fin 2560) (he : e' = e) (d : Fin 64) (hd : d.val = e.val % 64) (T : EReal)
    (hT : T = if d.val % 32 < 16 then -u (partner e) else u (partner e)) : u e' * C d + T * S d = rope u C S e := by
  obtain rfl : d = ⟨e.val % 64, Nat.mod_lt _ (by decide)⟩ := Fin.ext hd
  rw [hT, he, rope]
  by_cases h : e.val % 64 % 32 < 16
  · simp only [if_pos h]
    rw [mul_neg, mul_one, mul_neg, EReal.neg_mul]
  · simp only [if_neg h]
    rw [mul_one]

/-- The four quarters of a head, each with its partner, read as the two halves of a group of 32. -/
theorem quarters (v : Fin 2560 → EReal) (p : Fin 2560) (n : ℕ) (hn : n < 64) (f1 : n < 32 → n < 16 → Fin 2560) (f2 : n < 32 → ¬n < 16 → Fin 2560)
    (f3 : ¬n < 32 → n - 32 < 16 → Fin 2560) (f4 : ¬n < 32 → ¬n - 32 < 16 → Fin 2560)

    (h1 : ∀ h h', f1 h h' = p) (h2 : ∀ h h', f2 h h' = p) (h3 : ∀ h h', f3 h h' = p) (h4 : ∀ h h', f4 h h' = p) :
    (if h : n < 32 then if h' : n < 16 then -v (f1 h h') else v (f2 h h') else if h' : n - 32 < 16 then -v (f3 h h') else v (f4 h h'))
      = if n % 32 < 16 then -v p else v p := by
  by_cases a : n < 32
  · rw [dif_pos a]
    by_cases b : n < 16
    · rw [dif_pos b, h1, if_pos (by omega)]
    · rw [dif_neg b, h2, if_neg (by omega)]
  · rw [dif_neg a]
    by_cases b : n - 32 < 16
    · rw [dif_pos b, h3, if_pos (by omega)]
    · rw [dif_neg b, h4, if_neg (by omega)]

theorem ofBits_eighth : Ideal.ofBits .f32 0x3E000000#32 = ((8⁻¹ : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- An eighth divided by the logarithm of 2 is the reciprocal of the logarithm of 256. -/
theorem scale_eq (X : EReal) :
    Ideal.div (X * Ideal.ofBits .f32 0x3E000000#32) (Ideal.log (Ideal.ofBits .f32 0x40000000#32)) = X * (((Real.log 256)⁻¹ : ℝ) : EReal) := by
  have hl : Real.log 2 ≠ 0 := (Real.log_pos (by norm_num)).ne'
  have hlog : Ideal.log ((2 : ℝ) : EReal) = ((Real.log 2 : ℝ) : EReal) := by
    change (if (2 : ℝ) ≤ 0 then (⊥ : EReal) else ((Real.log 2 : ℝ) : EReal)) = _
    rw [if_neg (by norm_num)]
  have h8 : (Real.log 256)⁻¹ = 8⁻¹ * (Real.log 2)⁻¹ := by
    rw [show (256 : ℝ) = 2 ^ 8 by norm_num, Real.log_pow, mul_inv]
    norm_num
  rw [ofBits_eighth, ofBits_two, hlog, Ideal.div, if_neg (by exact_mod_cast hl), ← EReal.coe_inv, mul_assoc, ← EReal.coe_mul, h8]

include a0 a1 a2 a3 a4 a5

theorem ref_k : Cert.QkvRefIdeal.Value.res_main_v81 m' c = resK m c := by
  funext i
  obtain ⟨b, r, k, rfl⟩ : ∃ b r k, i = ix3 b r k := by idx_vars i; exact ⟨i0, i1, i2, rfl⟩
  unfold Cert.QkvRefIdeal.Value.res_main_v81
  generalize hZ : Host.dotGeneral (F := Ideal) QkvRefIdeal.dot_S16x2048x2048_S2048x2560_S16x2048x2560_2_0_01_1_n_n none _ _ = Z
  have hz : ∀ b r e, Z (ix3 b r e) = projRow m c b r e := fun b r e => by
    rw [← hZ]
    pointwise
    simp only [a0, a1, a2, a3]
    simp only [hid_order]
    rfl
  clear hZ
  pointwise
  simp only [a4, a5, hz]
  refine rope_eq (projRow m c b r) (fun d => aCos m c (ix2 r d)) (fun d => aSin m c (ix2 r d)) ⟨2048 + k.val / 128 * 64 + k.val % 64, key_lt k⟩ _
    (Fin.ext (by show 2048 + (k.val / 128 * 64 + k.val % 64) = 2048 + k.val / 128 * 64 + k.val % 64; omega)) ⟨k.val % 64, Nat.mod_lt _ (by decide)⟩
    (by show k.val % 64 = (2048 + k.val / 128 * 64 + k.val % 64) % 64; omega) _ ?_
  refine quarters (projRow m c b r) _ (k.val % 64) (Nat.mod_lt _ (by decide)) _ _ _ _ ?_ ?_ ?_ ?_ <;> intro h h' <;> refine Fin.ext ?_
  · show 2048 + (k.val / 128 * 64 + (16 + k.val % 64)) = if (2048 + k.val / 128 * 64 + k.val % 64) % 32 < 16 then 2048 + k.val / 128 * 64 + k.val % 64 + 16 else 2048 + k.val / 128 * 64 + k.val % 64 - 16
    clear hz a0 a1 a2 a3 a4 a5
    split <;> omega
  · show 2048 + (k.val / 128 * 64 + (k.val % 64 - 16)) = if (2048 + k.val / 128 * 64 + k.val % 64) % 32 < 16 then 2048 + k.val / 128 * 64 + k.val % 64 + 16 else 2048 + k.val / 128 * 64 + k.val % 64 - 16
    clear hz a0 a1 a2 a3 a4 a5
    split <;> omega
  · show 2048 + (k.val / 128 * 64 + (32 + (16 + (k.val % 64 - 32)))) = if (2048 + k.val / 128 * 64 + k.val % 64) % 32 < 16 then 2048 + k.val / 128 * 64 + k.val % 64 + 16 else 2048 + k.val / 128 * 64 + k.val % 64 - 16
    clear hz a0 a1 a2 a3 a4 a5
    split <;> omega
  · show 2048 + (k.val / 128 * 64 + (32 + (k.val % 64 - 32 - 16))) = if (2048 + k.val / 128 * 64 + k.val % 64) % 32 < 16 then 2048 + k.val / 128 * 64 + k.val % 64 + 16 else 2048 + k.val / 128 * 64 + k.val % 64 - 16
    clear hz a0 a1 a2 a3 a4 a5
    split <;> omega

theorem ref_q : Cert.QkvRefIdeal.Value.res_main_v80 m' c = resQ m c := by
  funext i
  obtain ⟨b, r, k, rfl⟩ : ∃ b r k, i = ix3 b r k := by idx_vars i; exact ⟨i0, i1, i2, rfl⟩
  unfold Cert.QkvRefIdeal.Value.res_main_v80
  generalize hZ : Host.dotGeneral (F := Ideal) QkvRefIdeal.dot_S16x2048x2048_S2048x2560_S16x2048x2560_2_0_01_1_n_n none _ _ = Z
  have hz : ∀ b r e, Z (ix3 b r e) = projRow m c b r e := fun b r e => by
    rw [← hZ]
    pointwise
    simp only [a0, a1, a2, a3]
    simp only [hid_order]
    rfl
  clear hZ
  pointwise
  simp only [a4, a5, hz]
  refine (scale_eq _).trans (congrArg (· * (((Real.log 256)⁻¹ : ℝ) : EReal)) ?_)
  refine rope_eq (projRow m c b r) (fun d => aCos m c (ix2 r d)) (fun d => aSin m c (ix2 r d)) ⟨k.val, lt_trans k.isLt (by decide)⟩ _
    rfl ⟨k.val % 64, Nat.mod_lt _ (by decide)⟩ rfl _ ?_
  refine quarters (projRow m c b r) _ (k.val % 64) (Nat.mod_lt _ (by decide)) _ _ _ _ ?_ ?_ ?_ ?_ <;> intro h h' <;> refine Fin.ext ?_
  · show k.val / 512 * 512 + k.val / 64 % 8 * 64 + (16 + k.val % 64) = if (k.val) % 32 < 16 then k.val + 16 else k.val - 16
    clear hz a0 a1 a2 a3 a4 a5
    split <;> omega
  · show k.val / 512 * 512 + k.val / 64 % 8 * 64 + (k.val % 64 - 16) = if (k.val) % 32 < 16 then k.val + 16 else k.val - 16
    clear hz a0 a1 a2 a3 a4 a5
    split <;> omega
  · show k.val / 512 * 512 + k.val / 64 % 8 * 64 + (32 + (16 + (k.val % 64 - 32))) = if (k.val) % 32 < 16 then k.val + 16 else k.val - 16
    clear hz a0 a1 a2 a3 a4 a5
    split <;> omega
  · show k.val / 512 * 512 + k.val / 64 % 8 * 64 + (32 + (k.val % 64 - 32 - 16)) = if (k.val) % 32 < 16 then k.val + 16 else k.val - 16
    clear hz a0 a1 a2 a3 a4 a5
    split <;> omega

omit a0 a1 a2 a3 a4 a5

/-- The reference's run, from arguments that agree with the kernel's: its three results are the kernel's. -/
theorem ref_run (ρ : Dev QkvRefIdeal.nD → PrngReg)
    (hagree : ∀ c : Dev QkvIdeal.nD, m' (c.tc.loc QkvRefIdeal.main_arg0) = aX m c ∧ m' (c.tc.loc QkvRefIdeal.main_arg1) = aMod m c
      ∧ m' (c.tc.loc QkvRefIdeal.main_arg2) = aPre m c ∧ m' (c.tc.loc QkvRefIdeal.main_arg3) = aW m c
      ∧ m' (c.tc.loc QkvRefIdeal.main_arg4) = aCos m c ∧ m' (c.tc.loc QkvRefIdeal.main_arg5) = aSin m c) :
    θ_run QkvRefIdeal.defs (onTc (τ := QkvRefIdeal.τ) (QkvRefIdeal.main (F := Ideal))) ⟨m', fun _ => 0, ρ⟩ fun s => ∀ c : Dev QkvRefIdeal.nD,
      s.2.mem (c.tc.loc QkvRefIdeal.main_v80) = resQ m c ∧ s.2.mem (c.tc.loc QkvRefIdeal.main_v81) = resK m c ∧ s.2.mem (c.tc.loc QkvRefIdeal.main_v82) = resV m c
      ∧ s.2.mem (c.tc.loc QkvRefIdeal.main_arg0) = m' (c.tc.loc QkvRefIdeal.main_arg0) ∧ s.2.mem (c.tc.loc QkvRefIdeal.main_arg1) = m' (c.tc.loc QkvRefIdeal.main_arg1)
      ∧ s.2.mem (c.tc.loc QkvRefIdeal.main_arg2) = m' (c.tc.loc QkvRefIdeal.main_arg2) ∧ s.2.mem (c.tc.loc QkvRefIdeal.main_arg3) = m' (c.tc.loc QkvRefIdeal.main_arg3)
      ∧ s.2.mem (c.tc.loc QkvRefIdeal.main_arg4) = m' (c.tc.loc QkvRefIdeal.main_arg4) ∧ s.2.mem (c.tc.loc QkvRefIdeal.main_arg5) = m' (c.tc.loc QkvRefIdeal.main_arg5) := by
  refine (θ_run QkvRefIdeal.defs _ _).mono (fun s h c => ?_) (QkvRefIdeal.Value.run (F := Ideal) m' ρ)
  obtain ⟨a0, a1, a2, a3, a4, a5⟩ := hagree c
  refine ⟨(h c).1.trans (ref_q m m' c a0 a1 a2 a3 a4 a5), (h c).2.1.trans (ref_k m m' c a0 a1 a2 a3 a4 a5), (h c).2.2.1.trans ?_, (h c).2.2.2⟩
  funext i
  obtain ⟨b, e, r, rfl⟩ : ∃ b e r, i = ix3 b e r := by idx_vars i; exact ⟨i0, i1, i2, rfl⟩
  generalize hZ : Host.dotGeneral (F := Ideal) QkvRefIdeal.dot_S16x2048x2048_S2048x2560_S16x2048x2560_2_0_01_1_n_n none _ _ = Z
  have hz : ∀ b r e, Z (ix3 b r e) = projRow m c b r e := fun b r e => by
    rw [← hZ]
    pointwise
    simp only [a0, a1, a2, a3]
    simp only [hid_order]
    rfl
  clear hZ
  pointwise
  rw [hz]
  rfl

end Cert.QkvIdeal.Math
end
-- ==== Proof.QkvCtxRun.lean ====
/- The projection of the context, the same call without the rotary: what a grid point leaves, and its three results in terms of the
   argument arrays. Every grid point leaves one tile of 512 of the context's 4096 rows. -/
module

public import proofs.«01_k».proof.Proof.QkvEq
public import proofs.«01_k».proof.Proof.Gen.QkvCtxIdeal.Value
public import Idealize.ShloMosaic.Lib.Tactic.ValueTie

@[expose] public section

set_option maxRecDepth 16384

noncomputable section

namespace Cert.QkvCtxIdeal.Math

open Cert.QkvCtxIdeal Cert.QkvCtxIdeal.Gen Cert.Math Idealize.ShloMosaic Idealize.ShloMosaic.TcCoe Idealize.SL.Sem
open Idealize.ShloMosaic.Pipeline (Dat)
open Cert.QkvIdeal.Math (proj hid wIn wIn_q wIn_k wIn_v key_lt val_lt)

section Outs
variable (x0 : FVec Ideal S1x512x2048 .f32) (x1 : FVec Ideal S1x6x2048 .f32) (x2 : FVec Ideal S1x2048 .f32) (x3 : FVec Ideal S2048x2816 .bf16)

theorem proj_eq : k0_pay4 (F := Ideal) x0 x2 (View.ld x1 r0_2) (View.ld x1 r0_3) x3 = proj x0 x1 x2 x3 := by
  funext y
  idx_vars y
  unfold_payloads
  pointwise [proj, hid, rowNorm]
  try rfl

/-- The values: the last columns of the product, transposed. -/
theorem vals (z : Fin 1) (e : Fin 256) (r : Fin 512) (j : Fin 2816) (hj : j.val = 2560 + e.val) :
    out0_6 (F := Ideal) x0 x1 x2 x3 (ix3 z e r) = proj x0 x1 x2 x3 (ix2 r j) := by
  unfold out0_6
  frame_out
  unfold k0_pay3 k0_pay6
  simp only [proj_eq]
  generalize proj x0 x1 x2 x3 = Z
  pointwise
  exact congrArg (fun j => Z (ix2 r j)) (Fin.ext hj.symm)

/-- The queries: the first columns of the product, scaled. -/
theorem qrys (z : Fin 1) (r : Fin 512) (e : Fin 2048) (j : Fin 2816) (hj : j.val = e.val) :
    out0_4 (F := Ideal) x0 x1 x2 x3 (ix3 z r e) = proj x0 x1 x2 x3 (ix2 r j) * ((Real.log 256)⁻¹ : ℝ) := by
  unfold out0_4
  frame_out
  unfold k0_pay1 k0_pay7
  simp only [proj_eq]
  generalize proj x0 x1 x2 x3 = Z
  pointwise
  rw [show (⟨e.val, lt_trans e.isLt (by decide)⟩ : Fin 2816) = j from Fin.ext hj.symm]
  simp [Named.named, κ]

/-- The keys: the middle columns of the product. -/
theorem kys (z : Fin 1) (r : Fin 512) (e : Fin 512) (j : Fin 2816) (hj : j.val = 2048 + e.val) :
    out0_5 (F := Ideal) x0 x1 x2 x3 (ix3 z r e) = proj x0 x1 x2 x3 (ix2 r j) := by
  unfold out0_5
  frame_out
  unfold k0_pay2 k0_pay5
  simp only [proj_eq]
  generalize proj x0 x1 x2 x3 = Z
  pointwise
  exact congrArg (fun j => Z (ix2 r j)) (Fin.ext hj.symm)

end Outs

variable (m : (ℓ : Loc nD τ sig) → Buf (Elt Ideal) ℓ)

/-- The argument arrays, typed by their shapes. -/
abbrev aX (c : Dev nD) : FVec Ideal S16x256x2048 .f32 := m ((c : Thread nD τ).loc main_arg0)
abbrev aMod (c : Dev nD) : FVec Ideal S1x6x2048 .f32 := m ((c : Thread nD τ).loc main_arg1)
abbrev aPre (c : Dev nD) : FVec Ideal S2048 .f32 := m ((c : Thread nD τ).loc main_arg2)
abbrev aW (c : Dev nD) : FVec Ideal S2048x2560 .f32 := m ((c : Thread nD τ).loc main_arg3)

theorem wIn_eq (c : Dev nD) : (V m c main_v7 : FVec Ideal S2048x2816 .bf16) = wIn (truncf .bf16 (aW m c) bitsLt_bf16_f32) := by
  let F7 : Valuation τ sig (Elt Ideal) := StableHlo.after (List.take 7 hostOps0) (fun b => m (c, b))
  have h1 : F7 (Proc.devRef .tc main_v1) = extractStridedSlice S2048x2048 ![0, 0] (truncf .bf16 (aW m c) bitsLt_bf16_f32) slices_S2048x2560_S2048x2048_0_0 := by
    simp only [F7, hostOps0, List.take, StableHlo.after_cons, StableHlo.after_nil]
    after_results_simp
    try rfl
  have h5 : F7 (Proc.devRef .tc main_v5) = shapeCast S2048x512 (broadcastInDim S2048x4x2x64 ![0, 1, 2, 3] bcast_S2048x4x1x64_S2048x4x2x64_0_1_2_3
      (shapeCast S2048x4x1x64 (extractStridedSlice S2048x256 ![0, 2048] (truncf .bf16 (aW m c) bitsLt_bf16_f32) slices_S2048x2560_S2048x256_0_2048) shapeCasts_S2048x256_S2048x4x1x64)) shapeCasts_S2048x4x2x64_S2048x512 := by
    simp only [F7, hostOps0, List.take, StableHlo.after_cons, StableHlo.after_nil]
    after_results_simp
    try rfl
  have h6 : F7 (Proc.devRef .tc main_v6) = extractStridedSlice S2048x256 ![0, 2304] (truncf .bf16 (aW m c) bitsLt_bf16_f32) slices_S2048x2560_S2048x256_0_2304 := by
    simp only [F7, hostOps0, List.take, StableHlo.after_cons, StableHlo.after_nil]
    after_results_simp
    try rfl
  have e : V m c main_v7 = StableHlo.after (List.drop 8 hostOps0) (StableHlo.after (List.take 8 hostOps0) (fun b => m (c, b))) (Proc.devRef .tc main_v7) :=
    congrFun ((congrArg (fun l => StableHlo.after l (fun b => m (c, b))) (List.take_append_drop 8 hostOps0).symm).trans (StableHlo.after_append _ _ _)) _
  refine e.trans ((StableHlo.after_of_forall_not_mem (b := Proc.devRef .tc main_v7) _ _ (List.forall_iff_forall_mem.mp ?_)).trans ?_)
  · simp only [hostOps0, List.drop, List.Forall, StableHlo.nullary_writes, StableHlo.unary_writes, StableHlo.binary_writes, StableHlo.reshape_writes, Finset.mem_singleton]
    repeat' apply And.intro
    all_goals exact StableHlo.devRef_ne_of_ne (by decide)
  · simp only [F7, hostOps0, List.take, StableHlo.after_cons, StableHlo.after_nil] at h1 h5 h6
    simp only [hostOps0, List.take, StableHlo.after_cons, StableHlo.after_nil]
    refine (StableHlo.nary_result' _ _ _ _ _).trans ?_
    unfold wIn
    rw [← h1, ← h5, ← h6]
    rfl

/-- The block index of every window at every grid point: row tile `t`. -/
theorem idx : ∀ t : Fin cfg0.N, win0_0.index t = ![0, t.val, 0] ∧ win0_1.index t = ![0, 0, 0]
    ∧ win0_2.index t = ![0, 0] ∧ win0_3.index t = ![0, 0]
    ∧ win0_4.index t = ![0, t.val, 0] ∧ win0_5.index t = ![0, t.val, 0] ∧ win0_6.index t = ![0, 0, t.val] ∧ t.val < 8 :=
  (by decide +kernel : ∀ t : Fin grid0.N, _)

/-- A row of the context, as a sequence of all its rows. -/
def row (c : Dev nD) (r : Fin 4096) (k : Fin 2048) : EReal := aX m c (ix3 ⟨r.val / 256, by omega⟩ ⟨r.val % 256, Nat.mod_lt _ (by decide)⟩ k)

theorem flat (c : Dev nD) (r : Fin 4096) (k : Fin 2048) : (V m c main_v8 : FVec Ideal S1x4096x2048 .f32) (ix3 0 r k) = row m c r k := by
  entry_read
  pointwise
  try rfl

theorem blk0 (c : Dev nD) (t : Fin cfg0.N) (r : Fin 512) (k : Fin 2048) (r' : Fin 4096) (hr : r'.val = t.val * 512 + r.val) :
    (iblk m c 0 t : FVec Ideal S1x512x2048 .f32) (ix3 0 r k) = row m c r' k := by
  refine Eq.trans ?_ (flat m c r' k)
  blk_ext [iblk, idx t]
theorem blk1 (c : Dev nD) (t : Fin cfg0.N) (s : Fin 6) (k : Fin 2048) :
    (iblk m c 1 t : FVec Ideal S1x6x2048 .f32) (ix3 0 s k) = aMod m c (ix3 0 s k) := by
  blk_ext [iblk, V, idx t]
theorem blk2 (c : Dev nD) (t : Fin cfg0.N) (k : Fin 2048) :
    (iblk m c 2 t : FVec Ideal S1x2048 .f32) (ix2 0 k) = aPre m c (ix1 k) := by
  blk_simp [iblk, V, idx t]
  entry_read
  pointwise
  blk_ext [idx t]
theorem blk3 (c : Dev nD) (t : Fin cfg0.N) (d : Fin 2048) (j : Fin 2816) :
    (iblk m c 3 t : FVec Ideal S2048x2816 .bf16) (ix2 d j) = (V m c main_v7 : FVec Ideal S2048x2816 .bf16) (ix2 d j) := by
  blk_ext [iblk, idx t]

/-- The normalised and modulated row. -/
def hidRow (c : Dev nD) (r : Fin 4096) : Fin 2048 → EReal := fun k =>
  rowNorm (row m c r) k * (aPre m c (ix1 k) * (1 + aMod m c (ix3 0 1 k))) + aMod m c (ix3 0 0 k)

/-- One row times the weights. -/
def projRow (c : Dev nD) (r : Fin 4096) : Fin 2560 → EReal := fun e => ∑ k : Fin 2048, hidRow m c r k * aW m c (ix2 k e)

/-- The queries, the keys (each head twice) and the values (transposed). -/
def resQ (c : Dev nD) : FVec Ideal S1x4096x2048 .bf16 := fun i => projRow m c (i 1) ⟨(i 2).val, lt_trans (i 2).isLt (by decide)⟩ * ((Real.log 256)⁻¹ : ℝ)
def resK (c : Dev nD) : FVec Ideal S1x4096x512 .bf16 := fun i => projRow m c (i 1) ⟨2048 + (i 2).val / 128 * 64 + (i 2).val % 64, key_lt (i 2)⟩
def resV (c : Dev nD) : FVec Ideal S1x256x4096 .bf16 := fun i => projRow m c (i 2) ⟨2304 + (i 1).val, val_lt (i 1)⟩

theorem proj_row (c : Dev nD) (t : Fin cfg0.N) (r : Fin 512) (j : Fin 2816) (r' : Fin 4096) (e : Fin 2560) (hr : r'.val = t.val * 512 + r.val)
    (hw : ∀ d, wIn (truncf .bf16 (aW m c) bitsLt_bf16_f32) (ix2 d j) = aW m c (ix2 d e)) :
    proj (iblk m c 0 t) (iblk m c 1 t) (iblk m c 2 t) (iblk m c 3 t) (ix2 r j) = projRow m c r' e := by
  unfold proj projRow
  refine Finset.sum_congr rfl fun k _ => congrArg₂ (· * ·) ?_ (((blk3 m c t k j).trans (congrFun (wIn_eq m c) _)).trans (hw k))
  have h0 : ∀ j : Fin 2048, _ := fun j => blk0 m c t r j r' hr
  have h2 := blk2 m c t k
  have h3 := blk1 m c t 0 k
  have h4 := blk1 m c t 1 k
  unfold hid hidRow
  simp only [h2, h3, h4, ix2]
  refine congrArg (fun x => x * _ + _) (congrArg (fun X => rowNorm X k) (funext h0))

theorem arrV (c : Dev nD) : (dats m 0 c).arrAt 6 cfg0.N = resV m c := by
  refine (dats m 0 c).arrAt_eq_of_covers 6 _ (by decide +kernel) fun t hf y => ?_
  blk_simp
  rw [after0_6]
  idx_vars y
  have hi := idx t
  obtain rfl : y0 = 0 := Fin.eq_zero y0
  have he : ((cfg0.win 6).blk t).view.emb (ix3 0 y1 y2 : S1x256x512.Idx) = (ix3 0 y1 ⟨t.val * 512 + y2.val, by omega⟩ : S1x256x4096.Idx) := by
    blk_ext [idx t]
  refine Eq.trans ?_ (congrArg (resV m c) he).symm
  refine (vals _ _ _ _ 0 y1 y2 ⟨2560 + y1.val, by omega⟩ rfl).trans ?_
  exact proj_row m c t y2 _ _ _ rfl fun d => wIn_v _ d _ _ (Nat.le_add_right _ _) (by show 2304 + y1.val = 2560 + y1.val - 256; omega)

theorem arrK (c : Dev nD) : (dats m 0 c).arrAt 5 cfg0.N = resK m c := by
  refine (dats m 0 c).arrAt_eq_of_covers 5 _ (by decide +kernel) fun t hf y => ?_
  blk_simp
  rw [after0_5]
  idx_vars y
  have hi := idx t
  obtain rfl : y0 = 0 := Fin.eq_zero y0
  have he : ((cfg0.win 5).blk t).view.emb (ix3 0 y1 y2 : S1x512x512.Idx) = (ix3 0 ⟨t.val * 512 + y1.val, by omega⟩ y2 : S1x4096x512.Idx) := by
    blk_ext [idx t]
  refine Eq.trans ?_ (congrArg (resK m c) he).symm
  refine (kys _ _ _ _ 0 y1 y2 ⟨2048 + y2.val, by omega⟩ rfl).trans ?_
  refine proj_row m c t y1 _ _ _ rfl fun d => wIn_k _ d _ _ (Nat.le_add_right _ _) (by show 2048 + y2.val < 2560; omega) ?_
  show 2048 + y2.val / 128 * 64 + y2.val % 64 = 2048 + (2048 + y2.val - 2048) / 128 * 64 + (2048 + y2.val) % 64
  omega

theorem arrQ (c : Dev nD) : (dats m 0 c).arrAt 4 cfg0.N = resQ m c := by
  refine (dats m 0 c).arrAt_eq_of_covers 4 _ (by decide +kernel) fun t hf y => ?_
  blk_simp
  rw [after0_4]
  idx_vars y
  have hi := idx t
  obtain rfl : y0 = 0 := Fin.eq_zero y0
  have he : ((cfg0.win 4).blk t).view.emb (ix3 0 y1 y2 : S1x512x2048.Idx) = (ix3 0 ⟨t.val * 512 + y1.val, by omega⟩ y2 : S1x4096x2048.Idx) := by
    blk_ext [idx t]
  refine Eq.trans ?_ (congrArg (resQ m c) he).symm
  refine (qrys _ _ _ _ 0 y1 y2 ⟨y2.val, by omega⟩ rfl).trans ?_
  exact congrArg (· * (((Real.log 256)⁻¹ : ℝ) : EReal)) (proj_row m c t y1 _ _ _ rfl fun d => wIn_q _ d _ _ y2.isLt rfl)

end Cert.QkvCtxIdeal.Math
end
-- ==== Proof.QkvCtxEq.lean ====
/- The reference queries, keys and values of the context, read at an index, are the kernel's results. -/
module

public import proofs.«01_k».proof.Proof.QkvCtxRun
public import proofs.«01_k».proof.Proof.Gen.QkvCtxRefIdeal.Run

@[expose] public section

set_option maxRecDepth 16384

noncomputable section

namespace Cert.QkvCtxIdeal.Math

open Cert.Math Idealize.ShloMosaic Idealize.ShloMosaic.TcCoe Idealize.SL.Sem
open Cert.QkvIdeal.Math (scale_eq)

variable (m : (ℓ : Loc QkvCtxIdeal.nD QkvCtxIdeal.τ QkvCtxIdeal.sig) → Buf (Elt Ideal) ℓ)
    (m' : (ℓ : Loc QkvCtxRefIdeal.nD QkvCtxRefIdeal.τ QkvCtxRefIdeal.sig) → Buf (Elt Ideal) ℓ) (c : Dev QkvCtxIdeal.nD)

/-- A row of the sequence of all rows, by its batch and its place there. -/
theorem row_at (b : Fin 16) (r : Fin 256) (r' : Fin 4096) (h : r'.val = b.val * 256 + r.val) : row m c r' = fun k => aX m c (ix3 b r k) := by
  funext k
  unfold row
  rw [show (⟨r'.val / 256, by omega⟩ : Fin 16) = b from Fin.ext (by show r'.val / 256 = b.val; omega),
    show (⟨r'.val % 256, Nat.mod_lt _ (by decide)⟩ : Fin 256) = r from Fin.ext (by show r'.val % 256 = r.val; omega)]

/-- The order in which the reference multiplies a normalised entry. -/
theorem hid_order (b : Fin 16) (r : Fin 256) (r' : Fin 4096) (h : r'.val = b.val * 256 + r.val) (x : Fin 2048) :
    aX m c (ix3 b r x) * Ideal.rsqrt (Ideal.div (∑ x, aX m c (ix3 b r x) * aX m c (ix3 b r x)) (Ideal.ofBits FTy.f32 1157627904#32) + Ideal.ofBits FTy.f32 897988541#32)
      * aPre m c (ix1 x) * (1 + aMod m c (ix3 0 1 x)) + aMod m c (ix3 0 0 x) = hidRow m c r' x := by
  rw [hidRow, row_at m c b r r' h, rowNorm, mul_assoc (_ * Ideal.rsqrt _)]

/-- The reference's run, from arguments that agree with the kernel's: its three results are the kernel's. -/
theorem ref_run (ρ : Dev QkvCtxRefIdeal.nD → PrngReg)
    (hagree : ∀ c : Dev QkvCtxIdeal.nD, m' (c.tc.loc QkvCtxRefIdeal.main_arg0) = aX m c ∧ m' (c.tc.loc QkvCtxRefIdeal.main_arg1) = aMod m c
      ∧ m' (c.tc.loc QkvCtxRefIdeal.main_arg2) = aPre m c ∧ m' (c.tc.loc QkvCtxRefIdeal.main_arg3) = aW m c) :
    θ_run QkvCtxRefIdeal.defs (onTc (τ := QkvCtxRefIdeal.τ) (QkvCtxRefIdeal.main (F := Ideal))) ⟨m', fun _ => 0, ρ⟩ fun s => ∀ c : Dev QkvCtxRefIdeal.nD,
      s.2.mem (c.tc.loc QkvCtxRefIdeal.main_v40) = resQ m c ∧ s.2.mem (c.tc.loc QkvCtxRefIdeal.main_v41) = resK m c ∧ s.2.mem (c.tc.loc QkvCtxRefIdeal.main_v42) = resV m c
      ∧ s.2.mem (c.tc.loc QkvCtxRefIdeal.main_arg0) = m' (c.tc.loc QkvCtxRefIdeal.main_arg0) ∧ s.2.mem (c.tc.loc QkvCtxRefIdeal.main_arg1) = m' (c.tc.loc QkvCtxRefIdeal.main_arg1)
      ∧ s.2.mem (c.tc.loc QkvCtxRefIdeal.main_arg2) = m' (c.tc.loc QkvCtxRefIdeal.main_arg2) ∧ s.2.mem (c.tc.loc QkvCtxRefIdeal.main_arg3) = m' (c.tc.loc QkvCtxRefIdeal.main_arg3) := by
  refine (θ_run QkvCtxRefIdeal.defs _ _).mono (fun s h c => ?_) (QkvCtxRefIdeal.Value.run (F := Ideal) m' ρ)
  obtain ⟨a0, a1, a2, a3⟩ := hagree c
  obtain ⟨hq, hk, hv, hr⟩ := h c
  clear h hagree
  generalize hZ : Host.dotGeneral (F := Ideal) QkvCtxRefIdeal.dot_S16x256x2048_S2048x2560_S16x256x2560_2_0_01_1_n_n none _ _ = Z at hq hk hv
  have hz : ∀ b r e (r' : Fin 4096), r'.val = b.val * 256 + r.val → Z (ix3 b r e) = projRow m c r' e := fun b r e r' h => by
    rw [← hZ]
    pointwise
    simp only [a0, a1, a2, a3]
    simp only [hid_order m c b r r' h]
    rfl
  clear hZ
  refine ⟨hq.trans ?_, hk.trans ?_, hv.trans ?_, hr⟩ <;> clear hq hk hv hr <;> funext i
  · obtain ⟨z, r, e, rfl⟩ : ∃ z r e, i = ix3 z r e := by idx_vars i; exact ⟨i0, i1, i2, rfl⟩
    pointwise
    refine (scale_eq _).trans (congrArg (· * (((Real.log 256)⁻¹ : ℝ) : EReal)) ?_)
    exact (hz _ _ _ r (by show r.val = r.val / 256 * 256 + r.val % 256; omega))
  · obtain ⟨z, r, e, rfl⟩ : ∃ z r e, i = ix3 z r e := by idx_vars i; exact ⟨i0, i1, i2, rfl⟩
    pointwise
    refine (hz _ _ _ r (by show r.val = r.val / 256 * 256 + r.val % 256; omega)).trans (congrArg (projRow m c r) (Fin.ext ?_))
    show 2048 + (e.val / 128 * 64 + e.val % 64) = 2048 + e.val / 128 * 64 + e.val % 64
    omega
  · obtain ⟨z, e, r, rfl⟩ : ∃ z e r, i = ix3 z e r := by idx_vars i; exact ⟨i0, i1, i2, rfl⟩
    pointwise
    exact (hz _ _ _ r (by show r.val = r.val / 256 * 256 + r.val % 256; omega))

end Cert.QkvCtxIdeal.Math
end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnEq
public import proofs.«01_k».proof.Proof.Gen.Attn.Frame
public import proofs.«01_k».proof.Proof.Gen.AttnIdeal.Frame
public import proofs.«01_k».proof.Proof.Gen.AttnRefIdeal.Run
public import proofs.«01_k».proof.Proof.Gen.Qkv.Frame
public import proofs.«01_k».proof.Proof.Gen.QkvIdeal.Value
public import proofs.«01_k».proof.Proof.Gen.QkvRefIdeal.Run
public import proofs.«01_k».proof.Proof.QkvEq
public import proofs.«01_k».proof.Proof.Gen.QkvCtx.Frame
public import proofs.«01_k».proof.Proof.Gen.QkvCtxIdeal.Value
public import proofs.«01_k».proof.Proof.Gen.QkvCtxRefIdeal.Run
public import proofs.«01_k».proof.Proof.QkvCtxEq
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem quiescent_QkvRefIdeal : quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

theorem preserves_Qkv_QkvIdeal : preserves_Qkv_QkvIdeal :=
  IdealRules.named_const.statement QkvIdeal.κ "qscale" .f32 0x3E38AA3B#32 ((Real.log 256)⁻¹ : ℝ) rfl

theorem quiescent_QkvCtxRefIdeal : quiescent_QkvCtxRefIdeal := fun m ρ _ =>
  (θ_run Cert.QkvCtxRefIdeal.defs _ _).mono (fun r h => ⟨fun c => (h c).2.2.2, sem_eq_zero_of_no_sems (by decide) r.2⟩)
    (Cert.QkvCtxRefIdeal.Value.run (F := Ideal) m ρ)

theorem preserves_QkvCtx_QkvCtxIdeal : preserves_QkvCtx_QkvCtxIdeal :=
  IdealRules.named_const.statement QkvCtxIdeal.κ "qscale" .f32 0x3E38AA3B#32 ((Real.log 256)⁻¹ : ℝ) rfl

theorem preserves_Attn_AttnIdeal : preserves_Attn_AttnIdeal :=
  ⟨IdealRules.named_const.statement AttnIdeal.κ "mask" .f32 0xF149F2CA#32 ⊥ rfl,
    IdealRules.named_const.statement AttnIdeal.κ "log2e" .f32 0x3FB8AA3B#32 ((Real.log 2)⁻¹ : ℝ) rfl⟩

theorem algebraic_FfnIdeal_FfnRefIdeal : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨a0, a1, a2, a3, a4, a5⟩ := hagree c
  rw [Cert.FfnIdeal.Math.arr]
  exact Cert.FfnIdeal.Math.ref_eq m m' c a0 a1 a2 a3 a4 a5

theorem algebraic_QkvIdeal_QkvRefIdeal : algebraic_QkvIdeal_QkvRefIdeal := by
  intro m ρ m' ρ' _ hagree
  refine ⟨_, _, _, Cert.QkvIdeal.Value.run_blocks (F := Ideal) m ρ, ?_⟩
  refine (θ_run Cert.QkvRefIdeal.defs _ _).mono (fun _ h c => ?_) (Cert.QkvIdeal.Math.ref_run m m' ρ' hagree)
  rw [Cert.QkvIdeal.Math.arrQ, Cert.QkvIdeal.Math.arrK, Cert.QkvIdeal.Math.arrV]
  exact h c

theorem algebraic_QkvCtxIdeal_QkvCtxRefIdeal : algebraic_QkvCtxIdeal_QkvCtxRefIdeal := by
  intro m ρ m' ρ' _ hagree
  refine ⟨_, _, _, Cert.QkvCtxIdeal.Value.run_blocks (F := Ideal) m ρ, ?_⟩
  refine (θ_run Cert.QkvCtxRefIdeal.defs _ _).mono (fun _ h c => ?_) (Cert.QkvCtxIdeal.Math.ref_run m m' ρ' hagree)
  rw [Cert.QkvCtxIdeal.Math.arrQ, Cert.QkvCtxIdeal.Math.arrK, Cert.QkvCtxIdeal.Math.arrV]
  exact h c

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts, Cert.Qkv.Gen.facts, Cert.QkvIdeal.Gen.facts, Cert.QkvRefIdeal.Gen.facts,
  Cert.QkvCtx.Gen.facts, Cert.QkvCtxIdeal.Gen.facts, Cert.QkvCtxRefIdeal.Gen.facts,
  fun m ρ _ => Cert.Ffn.Gen.frame m ρ, fun m ρ _ => Cert.FfnIdeal.Gen.frame m ρ, quiescent_FfnRefIdeal,
  fun m ρ _ => Cert.Attn.Gen.frame m ρ, fun m ρ _ => Cert.AttnIdeal.Gen.frame m ρ, quiescent_AttnRefIdeal,
  fun m ρ _ => Cert.Qkv.Gen.frame m ρ, fun m ρ _ => Cert.QkvIdeal.Gen.frame m ρ, quiescent_QkvRefIdeal,
  fun m ρ _ => Cert.QkvCtx.Gen.frame m ρ, fun m ρ _ => Cert.QkvCtxIdeal.Gen.frame m ρ, quiescent_QkvCtxRefIdeal,
  (trivial : preserves_Ffn_FfnIdeal), algebraic_FfnIdeal_FfnRefIdeal, preserves_Attn_AttnIdeal,
  preserves_Qkv_QkvIdeal, algebraic_QkvIdeal_QkvRefIdeal,
  preserves_QkvCtx_QkvCtxIdeal, algebraic_QkvCtxIdeal_QkvCtxRefIdeal⟩

end Cert.Proof

end
